-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x4096 : Shape := ⟨3, ![1, 128, 4096]⟩
abbrev S16x16 : Shape := ⟨2, ![16, 16]⟩
abbrev S256x256 : Shape := ⟨2, ![256, 256]⟩
abbrev S1024x14336 : Shape := ⟨2, ![1024, 14336]⟩
abbrev S32x14336 : Shape := ⟨2, ![32, 14336]⟩
abbrev S28x28 : Shape := ⟨2, ![28, 28]⟩
abbrev S512x512 : Shape := ⟨2, ![512, 512]⟩
abbrev S128x4096 : Shape := ⟨2, ![128, 4096]⟩
abbrev S128x14336 : Shape := ⟨2, ![128, 14336]⟩
abbrev S1024x512 : Shape := ⟨2, ![1024, 512]⟩
abbrev S32x512 : Shape := ⟨2, ![32, 512]⟩
abbrev S8x256x256 : Shape := ⟨3, ![8, 256, 256]⟩
abbrev S16x224x512 : Shape := ⟨3, ![16, 224, 512]⟩
abbrev S128x256 : Shape := ⟨2, ![128, 256]⟩
abbrev S16x256 : Shape := ⟨2, ![16, 256]⟩
abbrev S1x16x256 : Shape := ⟨3, ![1, 16, 256]⟩
abbrev S1x256x256 : Shape := ⟨3, ![1, 256, 256]⟩
abbrev S256x512 : Shape := ⟨2, ![256, 512]⟩
abbrev S256x1x512 : Shape := ⟨3, ![256, 1, 512]⟩
abbrev S256x8x512 : Shape := ⟨3, ![256, 8, 512]⟩
abbrev S2048x512 : Shape := ⟨2, ![2048, 512]⟩
abbrev S1x512 : Shape := ⟨2, ![1, 512]⟩
abbrev S64x512 : Shape := ⟨2, ![64, 512]⟩
abbrev S4096x512 : Shape := ⟨2, ![4096, 512]⟩
abbrev S128x512 : Shape := ⟨2, ![128, 512]⟩
abbrev S8x512 : Shape := ⟨2, ![8, 512]⟩
abbrev S1x8x512 : Shape := ⟨3, ![1, 8, 512]⟩
abbrev S224x224 : Shape := ⟨2, ![224, 224]⟩
abbrev S1x224x512 : Shape := ⟨3, ![1, 224, 512]⟩
abbrev S224x512 : Shape := ⟨2, ![224, 512]⟩
abbrev S16x512 : Shape := ⟨2, ![16, 512]⟩
abbrev S1x128x14336 : Shape := ⟨3, ![1, 128, 14336]⟩

abbrev nBuf : Space → Nat
  | .hbm => 10
  | .vmem => 14
  | .smem => 0
  | _ => 0

abbrev bufTy : (tb : Table) → Fin (tcTables nBuf tb) → BufTy
  | .hbm, ⟨0, _⟩ => ⟨S1x128x4096, .bf16⟩
  | .hbm, ⟨1, _⟩ => ⟨S16x16, .bf16⟩
  | .hbm, ⟨2, _⟩ => ⟨S256x256, .bf16⟩
  | .hbm, ⟨3, _⟩ => ⟨S1024x14336, .i8⟩
  | .hbm, ⟨4, _⟩ => ⟨S32x14336, .f32⟩
  | .hbm, ⟨5, _⟩ => ⟨S28x28, .bf16⟩
  | .hbm, ⟨6, _⟩ => ⟨S512x512, .bf16⟩
  | .hbm, ⟨7, _⟩ => ⟨S128x4096, .bf16⟩
  | .hbm, ⟨8, _⟩ => ⟨S128x14336, .bf16⟩
  | .hbm, ⟨9, _⟩ => ⟨S1x128x14336, .bf16⟩
  | .local _ .vmem, ⟨0, _⟩ => ⟨S128x4096, .bf16⟩
  | .local _ .vmem, ⟨1, _⟩ => ⟨S16x16, .bf16⟩
  | .local _ .vmem, ⟨2, _⟩ => ⟨S256x256, .bf16⟩
  | .local _ .vmem, ⟨3, _⟩ => ⟨S1024x512, .i8⟩
  | .local _ .vmem, ⟨4, _⟩ => ⟨S1024x512, .i8⟩
  | .local _ .vmem, ⟨5, _⟩ => ⟨S32x512, .f32⟩
  | .local _ .vmem, ⟨6, _⟩ => ⟨S32x512, .f32⟩
  | .local _ .vmem, ⟨7, _⟩ => ⟨S28x28, .bf16⟩
  | .local _ .vmem, ⟨8, _⟩ => ⟨S512x512, .bf16⟩
  | .local _ .vmem, ⟨9, _⟩ => ⟨S128x14336, .bf16⟩
  | .local _ .vmem, ⟨10, _⟩ => ⟨S128x4096, .bf16⟩
  | .local _ .vmem, ⟨11, _⟩ => ⟨S8x256x256, .bf16⟩
  | .local _ .vmem, ⟨12, _⟩ => ⟨S16x224x512, .f32⟩
  | .local _ .vmem, ⟨13, _⟩ => ⟨S256x256, .f32⟩
  | _, _ => ⟨S1x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![28], ![false]⟩

def k0_mult1 (i : grid0.Coords) : BitVec 32 :=
  let arg0 : BitVec 32 := BitVec.ofNat 32 (i 0).val
  let c8_i32_21 : BitVec 32 := 8#32
  let v401 : BitVec 32 := Scalar.muli arg0 c8_i32_21
  v401
def k0_off1 (i : grid0.Coords) : Fin 3 → Nat :=
  let c0_22 : Index := 0#32
  let arg0 : BitVec 32 := BitVec.ofNat 32 (i 0).val
  let c8_i32_21 : BitVec 32 := 8#32
  let v401 : BitVec 32 := Scalar.muli arg0 c8_i32_21
  let v402 : BitVec 32 := v401
  let v403 : Index := Scalar.indexCast v402
  let c0_23 : Index := 0#32
  ![0, v403.toNat, 0]
def k0_mult2 (i : grid0.Coords) : BitVec 32 :=
  let arg0 : BitVec 32 := BitVec.ofNat 32 (i 0).val
  let c8_i32_24 : BitVec 32 := 8#32
  let v408 : BitVec 32 := Scalar.muli arg0 c8_i32_24
  v408
def k0_off2 (i : grid0.Coords) : Fin 3 → Nat :=
  let c1 : Index := 1#32
  let arg0 : BitVec 32 := BitVec.ofNat 32 (i 0).val
  let c8_i32_24 : BitVec 32 := 8#32
  let v408 : BitVec 32 := Scalar.muli arg0 c8_i32_24
  let v409 : BitVec 32 := v408
  let v410 : Index := Scalar.indexCast v409
  let c0_25 : Index := 0#32
  ![1, v410.toNat, 0]
def k0_mult3 (i : grid0.Coords) : BitVec 32 :=
  let arg0 : BitVec 32 := BitVec.ofNat 32 (i 0).val
  let c8_i32_26 : BitVec 32 := 8#32
  let v415 : BitVec 32 := Scalar.muli arg0 c8_i32_26
  v415
def k0_off3 (i : grid0.Coords) : Fin 3 → Nat :=
  let c2 : Index := 2#32
  let arg0 : BitVec 32 := BitVec.ofNat 32 (i 0).val
  let c8_i32_26 : BitVec 32 := 8#32
  let v415 : BitVec 32 := Scalar.muli arg0 c8_i32_26
  let v416 : BitVec 32 := v415
  let v417 : Index := Scalar.indexCast v416
  let c0_27 : Index := 0#32
  ![2, v417.toNat, 0]
def k0_mult4 (i : grid0.Coords) : BitVec 32 :=
  let arg0 : BitVec 32 := BitVec.ofNat 32 (i 0).val
  let c8_i32_28 : BitVec 32 := 8#32
  let v422 : BitVec 32 := Scalar.muli arg0 c8_i32_28
  v422
def k0_off4 (i : grid0.Coords) : Fin 3 → Nat :=
  let c3 : Index := 3#32
  let arg0 : BitVec 32 := BitVec.ofNat 32 (i 0).val
  let c8_i32_28 : BitVec 32 := 8#32
  let v422 : BitVec 32 := Scalar.muli arg0 c8_i32_28
  let v423 : BitVec 32 := v422
  let v424 : Index := Scalar.indexCast v423
  let c0_29 : Index := 0#32
  ![3, v424.toNat, 0]
def k0_mult5 (i : grid0.Coords) : BitVec 32 :=
  let arg0 : BitVec 32 := BitVec.ofNat 32 (i 0).val
  let c8_i32_30 : BitVec 32 := 8#32
  let v429 : BitVec 32 := Scalar.muli arg0 c8_i32_30
  v429
def k0_off5 (i : grid0.Coords) : Fin 3 → Nat :=
  let c4 : Index := 4#32
  let arg0 : BitVec 32 := BitVec.ofNat 32 (i 0).val
  let c8_i32_30 : BitVec 32 := 8#32
  let v429 : BitVec 32 := Scalar.muli arg0 c8_i32_30
  let v430 : BitVec 32 := v429
  let v431 : Index := Scalar.indexCast v430
  let c0_31 : Index := 0#32
  ![4, v431.toNat, 0]
def k0_mult6 (i : grid0.Coords) : BitVec 32 :=
  let arg0 : BitVec 32 := BitVec.ofNat 32 (i 0).val
  let c8_i32_32 : BitVec 32 := 8#32
  let v436 : BitVec 32 := Scalar.muli arg0 c8_i32_32
  v436
def k0_off6 (i : grid0.Coords) : Fin 3 → Nat :=
  let c5 : Index := 5#32
  let arg0 : BitVec 32 := BitVec.ofNat 32 (i 0).val
  let c8_i32_32 : BitVec 32 := 8#32
  let v436 : BitVec 32 := Scalar.muli arg0 c8_i32_32
  let v437 : BitVec 32 := v436
  let v438 : Index := Scalar.indexCast v437
  let c0_33 : Index := 0#32
  ![5, v438.toNat, 0]
def k0_mult7 (i : grid0.Coords) : BitVec 32 :=
  let arg0 : BitVec 32 := BitVec.ofNat 32 (i 0).val
  let c8_i32_34 : BitVec 32 := 8#32
  let v443 : BitVec 32 := Scalar.muli arg0 c8_i32_34
  v443
def k0_off7 (i : grid0.Coords) : Fin 3 → Nat :=
  let c6 : Index := 6#32
  let arg0 : BitVec 32 := BitVec.ofNat 32 (i 0).val
  let c8_i32_34 : BitVec 32 := 8#32
  let v443 : BitVec 32 := Scalar.muli arg0 c8_i32_34
  let v444 : BitVec 32 := v443
  let v445 : Index := Scalar.indexCast v444
  let c0_35 : Index := 0#32
  ![6, v445.toNat, 0]
def k0_mult8 (i : grid0.Coords) : BitVec 32 :=
  let arg0 : BitVec 32 := BitVec.ofNat 32 (i 0).val
  let c8_i32_36 : BitVec 32 := 8#32
  let v450 : BitVec 32 := Scalar.muli arg0 c8_i32_36
  v450
def k0_off8 (i : grid0.Coords) : Fin 3 → Nat :=
  let c7 : Index := 7#32
  let arg0 : BitVec 32 := BitVec.ofNat 32 (i 0).val
  let c8_i32_36 : BitVec 32 := 8#32
  let v450 : BitVec 32 := Scalar.muli arg0 c8_i32_36
  let v451 : BitVec 32 := v450
  let v452 : Index := Scalar.indexCast v451
  let c0_37 : Index := 0#32
  ![7, v452.toNat, 0]
def k0_mult9 (i : grid0.Coords) : BitVec 32 :=
  let arg0 : BitVec 32 := BitVec.ofNat 32 (i 0).val
  let c8_i32_38 : BitVec 32 := 8#32
  let v457 : BitVec 32 := Scalar.muli arg0 c8_i32_38
  v457
def k0_off9 (i : grid0.Coords) : Fin 3 → Nat :=
  let c8 : Index := 8#32
  let arg0 : BitVec 32 := BitVec.ofNat 32 (i 0).val
  let c8_i32_38 : BitVec 32 := 8#32
  let v457 : BitVec 32 := Scalar.muli arg0 c8_i32_38
  let v458 : BitVec 32 := v457
  let v459 : Index := Scalar.indexCast v458
  let c0_39 : Index := 0#32
  ![8, v459.toNat, 0]
def k0_mult10 (i : grid0.Coords) : BitVec 32 :=
  let arg0 : BitVec 32 := BitVec.ofNat 32 (i 0).val
  let c8_i32_40 : BitVec 32 := 8#32
  let v464 : BitVec 32 := Scalar.muli arg0 c8_i32_40
  v464
def k0_off10 (i : grid0.Coords) : Fin 3 → Nat :=
  let c9 : Index := 9#32
  let arg0 : BitVec 32 := BitVec.ofNat 32 (i 0).val
  let c8_i32_40 : BitVec 32 := 8#32
  let v464 : BitVec 32 := Scalar.muli arg0 c8_i32_40
  let v465 : BitVec 32 := v464
  let v466 : Index := Scalar.indexCast v465
  let c0_41 : Index := 0#32
  ![9, v466.toNat, 0]
def k0_mult11 (i : grid0.Coords) : BitVec 32 :=
  let arg0 : BitVec 32 := BitVec.ofNat 32 (i 0).val
  let c8_i32_42 : BitVec 32 := 8#32
  let v471 : BitVec 32 := Scalar.muli arg0 c8_i32_42
  v471
def k0_off11 (i : grid0.Coords) : Fin 3 → Nat :=
  let c10 : Index := 10#32
  let arg0 : BitVec 32 := BitVec.ofNat 32 (i 0).val
  let c8_i32_42 : BitVec 32 := 8#32
  let v471 : BitVec 32 := Scalar.muli arg0 c8_i32_42
  let v472 : BitVec 32 := v471
  let v473 : Index := Scalar.indexCast v472
  let c0_43 : Index := 0#32
  ![10, v473.toNat, 0]
def k0_mult12 (i : grid0.Coords) : BitVec 32 :=
  let arg0 : BitVec 32 := BitVec.ofNat 32 (i 0).val
  let c8_i32_44 : BitVec 32 := 8#32
  let v478 : BitVec 32 := Scalar.muli arg0 c8_i32_44
  v478
def k0_off12 (i : grid0.Coords) : Fin 3 → Nat :=
  let c11 : Index := 11#32
  let arg0 : BitVec 32 := BitVec.ofNat 32 (i 0).val
  let c8_i32_44 : BitVec 32 := 8#32
  let v478 : BitVec 32 := Scalar.muli arg0 c8_i32_44
  let v479 : BitVec 32 := v478
  let v480 : Index := Scalar.indexCast v479
  let c0_45 : Index := 0#32
  ![11, v480.toNat, 0]
def k0_mult13 (i : grid0.Coords) : BitVec 32 :=
  let arg0 : BitVec 32 := BitVec.ofNat 32 (i 0).val
  let c8_i32_46 : BitVec 32 := 8#32
  let v485 : BitVec 32 := Scalar.muli arg0 c8_i32_46
  v485
def k0_off13 (i : grid0.Coords) : Fin 3 → Nat :=
  let c12 : Index := 12#32
  let arg0 : BitVec 32 := BitVec.ofNat 32 (i 0).val
  let c8_i32_46 : BitVec 32 := 8#32
  let v485 : BitVec 32 := Scalar.muli arg0 c8_i32_46
  let v486 : BitVec 32 := v485
  let v487 : Index := Scalar.indexCast v486
  let c0_47 : Index := 0#32
  ![12, v487.toNat, 0]
def k0_mult14 (i : grid0.Coords) : BitVec 32 :=
  let arg0 : BitVec 32 := BitVec.ofNat 32 (i 0).val
  let c8_i32_48 : BitVec 32 := 8#32
  let v492 : BitVec 32 := Scalar.muli arg0 c8_i32_48
  v492
def k0_off14 (i : grid0.Coords) : Fin 3 → Nat :=
  let c13 : Index := 13#32
  let arg0 : BitVec 32 := BitVec.ofNat 32 (i 0).val
  let c8_i32_48 : BitVec 32 := 8#32
  let v492 : BitVec 32 := Scalar.muli arg0 c8_i32_48
  let v493 : BitVec 32 := v492
  let v494 : Index := Scalar.indexCast v493
  let c0_49 : Index := 0#32
  ![13, v494.toNat, 0]
def k0_mult15 (i : grid0.Coords) : BitVec 32 :=
  let arg0 : BitVec 32 := BitVec.ofNat 32 (i 0).val
  let c8_i32_50 : BitVec 32 := 8#32
  let v499 : BitVec 32 := Scalar.muli arg0 c8_i32_50
  v499
def k0_off15 (i : grid0.Coords) : Fin 3 → Nat :=
  let c14 : Index := 14#32
  let arg0 : BitVec 32 := BitVec.ofNat 32 (i 0).val
  let c8_i32_50 : BitVec 32 := 8#32
  let v499 : BitVec 32 := Scalar.muli arg0 c8_i32_50
  let v500 : BitVec 32 := v499
  let v501 : Index := Scalar.indexCast v500
  let c0_51 : Index := 0#32
  ![14, v501.toNat, 0]
def k0_mult16 (i : grid0.Coords) : BitVec 32 :=
  let arg0 : BitVec 32 := BitVec.ofNat 32 (i 0).val
  let c8_i32_52 : BitVec 32 := 8#32
  let v506 : BitVec 32 := Scalar.muli arg0 c8_i32_52
  v506
def k0_off16 (i : grid0.Coords) : Fin 3 → Nat :=
  let c15 : Index := 15#32
  let arg0 : BitVec 32 := BitVec.ofNat 32 (i 0).val
  let c8_i32_52 : BitVec 32 := 8#32
  let v506 : BitVec 32 := Scalar.muli arg0 c8_i32_52
  let v507 : BitVec 32 := v506
  let v508 : Index := Scalar.indexCast v507
  let c0_53 : Index := 0#32
  ![15, v508.toNat, 0]
def k0_cond2 (i : grid0.Coords) : BitVec 1 :=
  let arg0 : BitVec 32 := BitVec.ofNat 32 (i 0).val
  let c27_i32 : BitVec 32 := 27#32
  let v512 : BitVec 1 := Scalar.cmpi .eq arg0 c27_i32
  let v513 : BitVec 32 := Scalar.extui v512
  let c0_i32_54 : BitVec 32 := 0#32
  let v514 : BitVec 1 := Scalar.cmpi .ne v513 c0_i32_54
  v514

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S28x28 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x14336 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x128x4096 : Shape := ⟨3, ![1, 128, 4096]⟩
abbrev S16x16 : Shape := ⟨2, ![16, 16]⟩
abbrev S256x256 : Shape := ⟨2, ![256, 256]⟩
abbrev S1024x14336 : Shape := ⟨2, ![1024, 14336]⟩
abbrev S32x14336 : Shape := ⟨2, ![32, 14336]⟩
abbrev S28x28 : Shape := ⟨2, ![28, 28]⟩
abbrev S512x512 : Shape := ⟨2, ![512, 512]⟩
abbrev S128x16x256 : Shape := ⟨3, ![128, 16, 256]⟩
abbrev S16x128x256 : Shape := ⟨3, ![16, 128, 256]⟩
abbrev S128x1024x4 : Shape := ⟨3, ![128, 1024, 4]⟩
abbrev S128x4x1024 : Shape := ⟨3, ![128, 4, 1024]⟩
abbrev S4 : Shape := ⟨1, ![4]⟩
abbrev S_ : Shape := ⟨0, ![]⟩
abbrev S4x1x1 : Shape := ⟨3, ![4, 1, 1]⟩
abbrev S1x1024x14336 : Shape := ⟨3, ![1, 1024, 14336]⟩
abbrev S4x1024x14336 : Shape := ⟨3, ![4, 1024, 14336]⟩
abbrev S4x32x32x14336 : Shape := ⟨4, ![4, 32, 32, 14336]⟩
abbrev S1x32x1x14336 : Shape := ⟨4, ![1, 32, 1, 14336]⟩
abbrev S128x14336 : Shape := ⟨2, ![128, 14336]⟩
abbrev S128x28x512 : Shape := ⟨3, ![128, 28, 512]⟩
abbrev S128x512x28 : Shape := ⟨3, ![128, 512, 28]⟩
abbrev S1x128x14336 : Shape := ⟨3, ![1, 128, 14336]⟩

abbrev nBuf : Space → Nat
  | .hbm => 47
  | .vmem => 0
  | .smem => 0
  | _ => 0

abbrev bufTy : (tb : Table) → Fin (tcTables nBuf tb) → BufTy
  | .hbm, ⟨0, _⟩ => ⟨S1x128x4096, .bf16⟩
  | .hbm, ⟨1, _⟩ => ⟨S16x16, .bf16⟩
  | .hbm, ⟨2, _⟩ => ⟨S256x256, .bf16⟩
  | .hbm, ⟨3, _⟩ => ⟨S1024x14336, .i8⟩
  | .hbm, ⟨4, _⟩ => ⟨S32x14336, .f32⟩
  | .hbm, ⟨5, _⟩ => ⟨S28x28, .bf16⟩
  | .hbm, ⟨6, _⟩ => ⟨S512x512, .bf16⟩
  | .hbm, ⟨7, _⟩ => ⟨S128x16x256, .bf16⟩
  | .hbm, ⟨8, _⟩ => ⟨S128x16x256, .f32⟩
  | .hbm, ⟨9, _⟩ => ⟨S128x16x256, .bf16⟩
  | .hbm, ⟨10, _⟩ => ⟨S16x128x256, .f32⟩
  | .hbm, ⟨11, _⟩ => ⟨S128x16x256, .f32⟩
  | .hbm, ⟨12, _⟩ => ⟨S128x16x256, .bf16⟩
  | .hbm, ⟨13, _⟩ => ⟨S128x1024x4, .bf16⟩
  | .hbm, ⟨14, _⟩ => ⟨S128x4x1024, .bf16⟩
  | .hbm, ⟨15, _⟩ => ⟨S4, .i32⟩
  | .hbm, ⟨16, _⟩ => ⟨S_, .i32⟩
  | .hbm, ⟨17, _⟩ => ⟨S4, .i32⟩
  | .hbm, ⟨18, _⟩ => ⟨S4, .i32⟩
  | .hbm, ⟨19, _⟩ => ⟨S4x1x1, .i32⟩
  | .hbm, ⟨20, _⟩ => ⟨S1024x14336, .i32⟩
  | .hbm, ⟨21, _⟩ => ⟨S1x1024x14336, .i32⟩
  | .hbm, ⟨22, _⟩ => ⟨S4x1024x14336, .i32⟩
  | .hbm, ⟨23, _⟩ => ⟨S4x1024x14336, .i32⟩
  | .hbm, ⟨24, _⟩ => ⟨S4x1024x14336, .i32⟩
  | .hbm, ⟨25, _⟩ => ⟨S_, .i32⟩
  | .hbm, ⟨26, _⟩ => ⟨S4x1024x14336, .i32⟩
  | .hbm, ⟨27, _⟩ => ⟨S4x1024x14336, .i32⟩
  | .hbm, ⟨28, _⟩ => ⟨S4x1024x14336, .bf16⟩
  | .hbm, ⟨29, _⟩ => ⟨S_, .bf16⟩
  | .hbm, ⟨30, _⟩ => ⟨S4x1024x14336, .bf16⟩
  | .hbm, ⟨31, _⟩ => ⟨S4x1024x14336, .bf16⟩
  | .hbm, ⟨32, _⟩ => ⟨S4x32x32x14336, .bf16⟩
  | .hbm, ⟨33, _⟩ => ⟨S32x14336, .bf16⟩
  | .hbm, ⟨34, _⟩ => ⟨S1x32x1x14336, .bf16⟩
  | .hbm, ⟨35, _⟩ => ⟨S4x32x32x14336, .bf16⟩
  | .hbm, ⟨36, _⟩ => ⟨S4x32x32x14336, .bf16⟩
  | .hbm, ⟨37, _⟩ => ⟨S4x1024x14336, .bf16⟩
  | .hbm, ⟨38, _⟩ => ⟨S128x14336, .f32⟩
  | .hbm, ⟨39, _⟩ => ⟨S128x14336, .bf16⟩
  | .hbm, ⟨40, _⟩ => ⟨S128x28x512, .bf16⟩
  | .hbm, ⟨41, _⟩ => ⟨S128x28x512, .f32⟩
  | .hbm, ⟨42, _⟩ => ⟨S128x28x512, .bf16⟩
  | .hbm, ⟨43, _⟩ => ⟨S128x512x28, .f32⟩
  | .hbm, ⟨44, _⟩ => ⟨S128x28x512, .f32⟩
  | .hbm, ⟨45, _⟩ => ⟨S128x28x512, .bf16⟩
  | .hbm, ⟨46, _⟩ => ⟨S1x128x14336, .bf16⟩
  | _, _ => ⟨S1x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Proof.KernelRuns.lean ====
/- The vocabulary the kernel's frame proof is stated over: @main around its one region, the window blocks at a point, how
   the argument arrays are read back from a finished run, the body's two branch conditions in closed form, and the
   staging and scratch buffers as the pipeline passes them to the body. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v2}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Finset.mem_sdiff.mpr ⟨Pipeline.mem_restRefs_of main_arg0 (by decide) (by decide), by decide⟩)).trans (V_main_arg0 m c),
      (Pipeline.RDat.FramePostR.arr_in h c 1 rfl).trans ((hA c 1).trans (V_main_arg1 m c)),
      (Pipeline.RDat.FramePostR.arr_in h c 2 rfl).trans ((hA c 2).trans (V_main_arg2 m c)),
      (Pipeline.RDat.FramePostR.arr_in h c 3 rfl).trans ((hA c 3).trans (V_main_arg3 m c)),
      (Pipeline.RDat.FramePostR.arr_in h c 4 rfl).trans ((hA c 4).trans (V_main_arg4 m c)),
      (Pipeline.RDat.FramePostR.arr_in h c 5 rfl).trans ((hA c 5).trans (V_main_arg5 m c)),
      (Pipeline.RDat.FramePostR.arr_in h c 6 rfl).trans ((hA c 6).trans (V_main_arg6 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, e0]
    word_cmp
   : ∀ t : Fin grid0.N, cond0_0 (grid0.coords t) ↔ t.val % 28 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 28 = 27 :=
  (fun t => by
    have ht : t.val < 28 := Nat.lt_of_lt_of_eq t.isLt N_0
    have e0 : (grid0.coords t 0).val = t.val / 1 % 28 := Pipeline.Grid.coords_val t 0 (by decide) rfl
    simp only [cond0_1, k0_cond2, e0]
    word_cmp
   : ∀ t : Fin grid0.N, cond0_1 (grid0.coords t) ↔ t.val % 28 = 27)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x16 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S28x28 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x14336 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S128x4096 .bf16 := Memref.whole cc0_scratch0
abbrev scM0_1 : Memref sig .tc .vmem S8x256x256 .bf16 := Memref.whole cc0_scratch1
abbrev scM0_2 : Memref sig .tc .vmem S16x224x512 .f32 := Memref.whole cc0_scratch2
abbrev scM0_3 : Memref sig .tc .vmem S256x256 .f32 := Memref.whole cc0_scratch3
/-- The scratch `arg9` the kernel carries between points, as a view: what it holds is stated through it. -/
abbrev VS0_0 : View sig .tc .vmem S128x4096 .bf16 := scM0_0.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.KernelRunA.lean ====
/- The body of the kernel run once at the first grid point, where the step-zero block is taken and the last-step block is not. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4080000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). Here also the FORGOTTEN outputs' (7) at anything, handed back at some contents nothing names. -/
noncomputable def kernelRun0_A (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x512 .i8) (harg4 : arg4.IsWhole) (arg5 : Memref sig .tc .vmem S32x512 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S128x4096 .bf16) (harg9 : arg9.IsWhole) (arg10 : Memref sig .tc .vmem S8x256x256 .bf16) (harg10 : arg10.IsWhole) (arg11 : Memref sig .tc .vmem S16x224x512 .f32) (harg11 : arg11.IsWhole) (arg12 : Memref sig .tc .vmem S256x256 .f32) (harg12 : arg12.IsWhole) (hc0 : cond0_0 i) (hc1 : ¬cond0_1 i)
    (x0 : Vec F S128x4096 .bf16) (x1 : Vec F S16x16 .bf16) (x2 : Vec F S256x256 .bf16) (x3 : Vec F S1024x512 .i8) (x4 : Vec F S32x512 .f32) (x5 : Vec F S28x28 .bf16) (x6 : Vec F S512x512 .bf16) :
    Σ' (LS0 : List (View.Piece (Elt F) S128x4096 .bf16)), Σ' (LT1 : List (View.Piece (Elt F) S8x256x256 .bf16)), { LT3 : List (View.Piece (Elt F) S256x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LT1) ∗ (∃ d, owns (c : Thread nD τ) arg11 fullShare d) ∗ (∃ f, arg12.view.loc (c : Thread nD τ) ↦[arg12.view.set]{fullShare} arg12.view.writes (Elt F) f LT3)) -∗ K ⟨⟩))
          ⊢ wp frame (wpE (defs₀ (F := F)) Variants.none c none) E (cc0_quip_linear i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_quip_linear_eq_skeleton]; unfold cc0_quip_linear_skel
    simp only [k0_part76_eq_skeleton, k0_part40_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [HS0]; · iexists _; iexact HS0
    isplitl [HS1]; · iexists _; iexact HS1
    isplitl [HS2]
    · iexists _, _; isplitr; swap; · iexact HS2
      ipureintro; rfl
    iexists _; iexact HS3

end Cert.Kernel.Hand

end
-- ==== Proof.KernelRunB.lean ====
/- The body of the kernel run once at a middle grid point, where neither conditional block is taken. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 26: 26 of 28), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). Here also the FORGOTTEN outputs' (7) at anything, handed back at some contents nothing names. -/
noncomputable def kernelRun0_B (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x512 .i8) (harg4 : arg4.IsWhole) (arg5 : Memref sig .tc .vmem S32x512 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S128x4096 .bf16) (harg9 : arg9.IsWhole) (arg10 : Memref sig .tc .vmem S8x256x256 .bf16) (harg10 : arg10.IsWhole) (arg11 : Memref sig .tc .vmem S16x224x512 .f32) (harg11 : arg11.IsWhole) (arg12 : Memref sig .tc .vmem S256x256 .f32) (harg12 : arg12.IsWhole) (hc0 : ¬cond0_0 i) (hc1 : ¬cond0_1 i)
    (x0 : Vec F S128x4096 .bf16) (x1 : Vec F S16x16 .bf16) (x2 : Vec F S256x256 .bf16) (x3 : Vec F S1024x512 .i8) (x4 : Vec F S32x512 .f32) (x5 : Vec F S28x28 .bf16) (x6 : Vec F S512x512 .bf16) (xs0 : Vec F S128x4096 .bf16) :
    Σ' (LS0 : List (View.Piece (Elt F) S128x4096 .bf16)), Σ' (LT1 : List (View.Piece (Elt F) S8x256x256 .bf16)), { LT3 : List (View.Piece (Elt F) S256x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quip_linear i arg1 harg1 arg2 harg2 arg3 harg3 arg4 harg4 arg5 harg5 arg6 harg6 arg7 harg7 arg8 harg8 arg9 harg9 arg10 harg10 arg11 harg11 arg12 harg12) K } := by
  refine ⟨[], [], [], fun E K => ?run⟩
  case run =>
    simp only [cc0_quip_linear_eq_skeleton]; unfold cc0_quip_linear_skel
    simp only [k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [HS0]
    · iexists _; isplitr; · ipureintro; exact harg9.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Hand

end
-- ==== Proof.KernelRunC.lean ====
/- The body of the kernel run once at the last grid point, where the last-step block is taken. -/
module

public import proofs.«01_k».proof.Proof.KernelRunB

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2716000 in
/-- What the body's stores leave in each output's staging memref, as pieces (last first) IN CASE C (`scf.if` 0 not taken, `scf.if` 1 taken: points 27), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). Here also the FORGOTTEN outputs' (7) at anything, handed back at some contents nothing names. -/
noncomputable def kernelRun0_C (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x512 .i8) (harg4 : arg4.IsWhole) (arg5 : Memref sig .tc .vmem S32x512 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S128x4096 .bf16) (harg9 : arg9.IsWhole) (arg10 : Memref sig .tc .vmem S8x256x256 .bf16) (harg10 : arg10.IsWhole) (arg11 : Memref sig .tc .vmem S16x224x512 .f32) (harg11 : arg11.IsWhole) (arg12 : Memref sig .tc .vmem S256x256 .f32) (harg12 : arg12.IsWhole) (hc0 : ¬cond0_0 i) (hc1 : cond0_1 i)
    (x0 : Vec F S128x4096 .bf16) (x1 : Vec F S16x16 .bf16) (x2 : Vec F S256x256 .bf16) (x3 : Vec F S1024x512 .i8) (x4 : Vec F S32x512 .f32) (x5 : Vec F S28x28 .bf16) (x6 : Vec F S512x512 .bf16) (xs0 : Vec F S128x4096 .bf16) :
    Σ' (LS0 : List (View.Piece (Elt F) S128x4096 .bf16)), Σ' (LT1 : List (View.Piece (Elt F) S8x256x256 .bf16)), { LT3 : List (View.Piece (Elt F) S256x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quip_linear i arg1 harg1 arg2 harg2 arg3 harg3 arg4 harg4 arg5 harg5 arg6 harg6 arg7 harg7 arg8 harg8 arg9 harg9 arg10 harg10 arg11 harg11 arg12 harg12) K } := by
  refine ⟨[], [], [], fun E K => ?run⟩
  case run =>
    simp only [cc0_quip_linear_eq_skeleton]; unfold cc0_quip_linear_skel
    simp only [k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part75_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [HS0]
    · iexists _; isplitr; · ipureintro; exact harg9.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Hand

end
-- ==== Proof.KernelFrame.lean ====
/- The kernel's frame: at every grid point the body keeps the windows it only reads, the carried scratch is named point by
   point, what the output window receives is left unnamed, and so every execution of @main ends with the argument arrays
   unchanged and every semaphore counter at zero. -/
module

public import proofs.«01_k».proof.Proof.KernelRunC
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg9`, which the kernel carries between points, cover it: 128 pieces of `S16x256` tiling it (Lib/Ring.lean `Piece.tiledL`). -/
theorem scover0_A_0 (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x512 .i8) (harg4 : arg4.IsWhole) (arg5 : Memref sig .tc .vmem S32x512 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S128x4096 .bf16) (harg9 : arg9.IsWhole) (arg10 : Memref sig .tc .vmem S8x256x256 .bf16) (harg10 : arg10.IsWhole) (arg11 : Memref sig .tc .vmem S16x224x512 .f32) (harg11 : arg11.IsWhole) (arg12 : Memref sig .tc .vmem S256x256 .f32) (harg12 : arg12.IsWhole) (hc0 : cond0_0 i) (hc1 : ¬cond0_1 i)
    (x0 : Vec F S128x4096 .bf16) (x1 : Vec F S16x16 .bf16) (x2 : Vec F S256x256 .bf16) (x3 : Vec F S1024x512 .i8) (x4 : Vec F S32x512 .f32) (x5 : Vec F S28x28 .bf16) (x6 : Vec F S512x512 .bf16) (y : S128x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1 S16x256.size (by sl_kernel_rfl) y

/-- What case A leaves in scratch `arg9`: its pieces read back over junk. -/
def sout0_A_0 (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x512 .i8) (harg4 : arg4.IsWhole) (arg5 : Memref sig .tc .vmem S32x512 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S128x4096 .bf16) (harg9 : arg9.IsWhole) (arg10 : Memref sig .tc .vmem S8x256x256 .bf16) (harg10 : arg10.IsWhole) (arg11 : Memref sig .tc .vmem S16x224x512 .f32) (harg11 : arg11.IsWhole) (arg12 : Memref sig .tc .vmem S256x256 .f32) (harg12 : arg12.IsWhole) (hc0 : cond0_0 i) (hc1 : ¬cond0_1 i)
    (x0 : Vec F S128x4096 .bf16) (x1 : Vec F S16x16 .bf16) (x2 : Vec F S256x256 .bf16) (x3 : Vec F S1024x512 .i8) (x4 : Vec F S32x512 .f32) (x5 : Vec F S28x28 .bf16) (x6 : Vec F S512x512 .bf16) : Vec F S128x4096 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1)

/-- Case B stores nothing into scratch `arg9`: it holds what the point before left. -/
def sout0_B_0 (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x512 .i8) (harg4 : arg4.IsWhole) (arg5 : Memref sig .tc .vmem S32x512 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S128x4096 .bf16) (harg9 : arg9.IsWhole) (arg10 : Memref sig .tc .vmem S8x256x256 .bf16) (harg10 : arg10.IsWhole) (arg11 : Memref sig .tc .vmem S16x224x512 .f32) (harg11 : arg11.IsWhole) (arg12 : Memref sig .tc .vmem S256x256 .f32) (harg12 : arg12.IsWhole) (hc0 : ¬cond0_0 i) (hc1 : ¬cond0_1 i)
    (x0 : Vec F S128x4096 .bf16) (x1 : Vec F S16x16 .bf16) (x2 : Vec F S256x256 .bf16) (x3 : Vec F S1024x512 .i8) (x4 : Vec F S32x512 .f32) (x5 : Vec F S28x28 .bf16) (x6 : Vec F S512x512 .bf16) (xs0 : Vec F S128x4096 .bf16) : Vec F S128x4096 .bf16 := xs0

/-- Case C stores nothing into scratch `arg9`: it holds what the point before left. -/
def sout0_C_0 (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x512 .i8) (harg4 : arg4.IsWhole) (arg5 : Memref sig .tc .vmem S32x512 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S128x4096 .bf16) (harg9 : arg9.IsWhole) (arg10 : Memref sig .tc .vmem S8x256x256 .bf16) (harg10 : arg10.IsWhole) (arg11 : Memref sig .tc .vmem S16x224x512 .f32) (harg11 : arg11.IsWhole) (arg12 : Memref sig .tc .vmem S256x256 .f32) (harg12 : arg12.IsWhole) (hc0 : ¬cond0_0 i) (hc1 : cond0_1 i)
    (x0 : Vec F S128x4096 .bf16) (x1 : Vec F S16x16 .bf16) (x2 : Vec F S256x256 .bf16) (x3 : Vec F S1024x512 .i8) (x4 : Vec F S32x512 .f32) (x5 : Vec F S28x28 .bf16) (x6 : Vec F S512x512 .bf16) (xs0 : Vec F S128x4096 .bf16) : Vec F S128x4096 .bf16 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S128x4096 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 28 = 0 then
      if h1 : (n + 1) % 28 = 27 then
        False.elim (by have hN : n + 1 < 28 := lt_of_lt_of_eq hn (show cfg0.N = 28 from N_0); omega)
      else
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else
      if h1 : (n + 1) % 28 = 27 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn))

/-- `outsAt0` at a point of case A: that case's contents. -/
theorem outsAt0_A (c : Dev nD) (t : Fin cfg0.N) (h0 : t.val % 28 = 0) (h1 : ¬t.val % 28 = 27) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 28 = 0) (h1 : ¬t.val % 28 = 27) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 28 = 0) (h1 : t.val % 28 = 27) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The output windows this certificate FORGETS (7): nothing reads what the kernel leaves in them, so nothing
    of it is named (Lib/Pipeline/Dat.lean `Dat.toRForget`). -/
def forgets0 : Fin 8 → Bool := fun w => w.val == 7

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 28 := lt_of_lt_of_eq t.isLt (show cfg0.N = 28 from N_0)
  by_cases h0 : t.val % 28 = 0
  · by_cases h1 : t.val % 28 = 27
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      by_cases hz : t.val = 0
      · rw [PhiS_castSucc m c t, PhiS_zero m c _ _ hz, PhiA0_eq]
        rw [outsAt0_A m c t h0 h1]
        unfold sout0_A_0
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        isplitl [HS1]; · iexact HS1
        isplitl [HS2]; · iexact HS2
        isplitl [HS3]; · iexact HS3
        iintro ⟨H0, H1, H2, H3, H4, H5, H6, H7, ⟨%es0, HS0⟩, ⟨%fT1, HS1⟩, HS2, ⟨%fT3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · iexact HS2
            iexists _; unfold owns; iexists _; isplitr
            swap; · iexact HS3
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · exfalso; have hN : t.val < 28 := lt_of_lt_of_eq t.isLt (show cfg0.N = 28 from N_0); omega
  · by_cases h1 : t.val % 28 = 27
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      by_cases hz : t.val = 0
      · exfalso; have hN : t.val < 28 := lt_of_lt_of_eq t.isLt (show cfg0.N = 28 from N_0); omega
      · rw [PhiS_castSucc m c t, PhiS_pos m c _ _ hz]
        rw [outsAt0_C m c t h0 h1]
        unfold sout0_C_0
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        isplitl [HS1]; · iexact HS1
        isplitl [HS2]; · iexact HS2
        isplitl [HS3]; · iexact HS3
        iintro ⟨H0, H1, H2, H3, H4, H5, H6, H7, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      by_cases hz : t.val = 0
      · exfalso; have hN : t.val < 28 := lt_of_lt_of_eq t.isLt (show cfg0.N = 28 from N_0); omega
      · rw [PhiS_castSucc m c t, PhiS_pos m c _ _ hz]
        rw [outsAt0_B m c t h0 h1]
        unfold sout0_B_0
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        isplitl [HS1]; · iexact HS1
        isplitl [HS2]; · iexact HS2
        isplitl [HS3]; · iexact HS3
        iintro ⟨H0, H1, H2, H3, H4, H5, H6, H7, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 28 := N_0; omega)

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 7) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- The kernel terminates, leaves its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Hand

end
-- ==== Proof.Runs.lean ====
/- The vocabulary the three runs of the kernel body share: the two branch conditions in closed form over the grid points,
   the fact that no input window is idle, the staging and scratch buffers as the pipeline passes them to the body, and the
   launch's resource for the scratch buffers read as four owned buffers. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch conditions -/

/-- The condition of the body's `scf.if` 0 (step zero's block), from the grid coordinates. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, e0]
    word_cmp
   : ∀ t : Fin grid0.N, cond0_0 (grid0.coords t) ↔ t.val % 28 = 0)

/-- The condition of the body's `scf.if` 1 (the last step's block), from the grid coordinates. -/
abbrev cond0_1 (i : grid0.Coords) : Prop := k0_cond2 i = 1#1
/-- It holds at the last point only — by arithmetic of the point. -/
theorem hcond0_1 : ∀ t : Fin cfg0.N, cond0_1 (grid0.coords t) ↔ t.val % 28 = 27 :=
  (fun t => by
    have ht : t.val < 28 := Nat.lt_of_lt_of_eq t.isLt N_0
    have e0 : (grid0.coords t 0).val = t.val / 1 % 28 := Pipeline.Grid.coords_val t 0 (by decide) rfl
    simp only [cond0_1, k0_cond2, e0]
    word_cmp
   : ∀ t : Fin grid0.N, cond0_1 (grid0.coords t) ↔ t.val % 28 = 27)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x16 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S28x28 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x14336 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S128x4096 .bf16 := Memref.whole cc0_scratch0
abbrev scM0_1 : Memref sig .tc .vmem S8x256x256 .bf16 := Memref.whole cc0_scratch1
abbrev scM0_2 : Memref sig .tc .vmem S16x224x512 .f32 := Memref.whole cc0_scratch2
abbrev scM0_3 : Memref sig .tc .vmem S256x256 .f32 := Memref.whole cc0_scratch3
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.RunB.lean ====
/- The run of the kernel body at a middle step: its triple, found by symbolic execution of the printed body, with the pieces
   its stores leave in each buffer the proof follows as the witness. -/
module

public import proofs.«01_k».proof.Proof.Runs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 1000000 in
/-- A middle step (neither block taken): the pieces `LR` it stores over what the scratch `arg11` held (`xs2`), the scratch `arg9`
    at `xs0`, WITH the proof that the body runs from the inputs' buffers at their contents to a continuation holding them
    and `arg9` as they were and `arg11` with those pieces written. -/
noncomputable def runB (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x512 .i8) (harg4 : arg4.IsWhole) (arg5 : Memref sig .tc .vmem S32x512 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S128x4096 .bf16) (harg9 : arg9.IsWhole) (arg10 : Memref sig .tc .vmem S8x256x256 .bf16) (harg10 : arg10.IsWhole) (arg11 : Memref sig .tc .vmem S16x224x512 .f32) (harg11 : arg11.IsWhole) (arg12 : Memref sig .tc .vmem S256x256 .f32) (harg12 : arg12.IsWhole) (hc0 : ¬cond0_0 i) (hc1 : ¬cond0_1 i)
    (x0 : Vec F S128x4096 .bf16) (x1 : Vec F S16x16 .bf16) (x2 : Vec F S256x256 .bf16) (x3 : Vec F S1024x512 .i8) (x4 : Vec F S32x512 .f32) (x5 : Vec F S28x28 .bf16) (x6 : Vec F S512x512 .bf16) (xs0 : Vec F S128x4096 .bf16) (xs2 : Vec F S16x224x512 .f32) :
    { LR : List (View.Piece (Elt F) S16x224x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ (∃ d, owns (c : Thread nD τ) arg10 fullShare d) ∗ owns (c : Thread nD τ) arg11 fullShare xs2 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ (∃ d, owns (c : Thread nD τ) arg10 fullShare d) ∗ owns (c : Thread nD τ) arg11 fullShare (arg11.view.read (Elt F) (arg11.view.writes (Elt F) (harg11.unread xs2) LR)) ∗ (∃ d, owns (c : Thread nD τ) arg12 fullShare d)) -∗ K ⟨⟩))
          ⊢ wp frame (wpE (defs₀ (F := F)) Variants.none c none) E (cc0_quip_linear i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_quip_linear_eq_skeleton]; unfold cc0_quip_linear_skel
    simp only [k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg9.eq_unread hfs0
    obtain rfl := harg11.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [HS0]
    · iexists _; isplitr; · ipureintro; exact harg9.read_unread _
      iexact HS0
    isplitl [HS1]
    · iexists _, _; isplitr; swap; · iexact HS1
      ipureintro; rfl
    isplitl [HS2]
    · iexists _; isplitr; swap; · iexact HS2
      ipureintro; rfl
    iexists _, _; isplitr; swap; · iexact HS3
    ipureintro; rfl

end Cert.KernelIdeal.Hand

end
-- ==== Proof.Model.lean ====
/- The arrays the kernel body builds, each written once as a function of the arrays it is built from: the permuted second
   factor, the two Kronecker factors, the transformed input `z`, the decoded weight block, the product of one step and the
   final output block. The operations are the kernel's own; the sixteen or more copies of each that the unrolled body spells
   are one definition with an index here. -/
module

public import proofs.«01_k».proof.Proof.Gen.KernelIdeal.Frame
public import proofs.«01_k».proof.Proof.Gen.KernelIdeal.Skeleton
public import Idealize.ShloMosaic.Lib.PointwiseCore

@[expose] public section

set_option maxRecDepth 16384

noncomputable section

namespace Cert.KernelIdeal.Hand

open Idealize.ShloMosaic Idealize.ShloMosaic.TcCoe Idealize.SL.Sem
open Cert.KernelIdeal.Gen

variable {F : FTy → Type} [FloatOps F]

/-! ## Step zero: the input transform -/

/-- Row numbers of a 256 by 256 array, as words. -/
abbrev iotaRow : IVec S256x256 32 := iota .tc S256x256 32 [0] iota_S256x256_d0_w32
/-- Column numbers of a 256 by 256 array, as words. -/
abbrev iotaCol : IVec S256x256 32 := iota .tc S256x256 32 [1] iota_S256x256_d1_w32

/-- Where the one-hot matrix that permutes the columns of `v2` is one. -/
def permMask : IVec S256x256 1 := k0_pay6 iotaRow iotaCol k0_pay3 k0_pay4 k0_pay5
/-- The second factor with its columns permuted (a product with a one-hot matrix). -/
def v2perm (v2 : Vec F S256x256 .bf16) : FVec F S256x256 .bf16 := k0_pay7 v2 permMask

/-- The transposed first factor in the corner of a zero 256 by 256 array. -/
def pad1 (v1 : Vec F S16x16 .bf16) : Vec F S256x256 .f32 := fun y =>
  if h : (y 0).val < 16 ∧ (y 1).val < 16 then k0_pay9 v1 (ix2 ⟨(y 0).val, h.1⟩ ⟨(y 1).val, h.2⟩) else k0_pay8 (F := F) y
/-- The Kronecker product of a padded array's corner with the 16 by 16 identity. -/
def kronOf1 (pad : Vec F S256x256 .f32) : FVec F S256x256 .bf16 :=
  k0_pay15 iotaRow iotaCol (k0_pay14 (k0_pay10 pad) iotaRow iotaCol k0_pay11 k0_pay12 k0_pay13) 16#32

/-- Column block `c` of the input lies inside the input. -/
theorem xCols_inb (c : Fin 16) : ∀ a, (![0, 256 * c.val] : Fin 2 → ℕ) a + S128x256.size a ≤ S128x4096.size a := by
  intro a; fin_cases a
  · exact Nat.le_refl _
  · show 256 * c.val + 256 ≤ 4096; omega
/-- Column block `c` of the input times the permuted second factor. -/
def sBlk (x : Vec F S128x4096 .bf16) (v2 : Vec F S256x256 .bf16) (c : Fin 16) : FVec F S128x256 .bf16 :=
  k0_pay16 (v2perm v2) (View.ld x (Rect.unit ![0, 256 * c.val] S128x256.size (xCols_inb c)))

/-- A sixteen-row group of a column block's product lies inside it. -/
theorem sRows_slices (t : Fin 8) : S128x256.Slices ![16 * t.val, 0] S16x256 :=
  ⟨rfl, fun a => by
    fin_cases a
    · show 16 * t.val + 16 ≤ 128; omega
    · exact Nat.le_refl _⟩
/-- The sixteen rows of group `t` of column block `c`'s product. -/
def sPiece (x : Vec F S128x4096 .bf16) (v2 : Vec F S256x256 .bf16) (t : Fin 8) (c : Fin 16) : FVec F S1x16x256 .bf16 :=
  shapeCast S1x16x256 (extractStridedSlice S16x256 ![16 * t.val, 0] (sBlk x v2 c) (sRows_slices t)) shapeCasts_S16x256_S1x16x256

/-- The first scratch array: row `16 c + i` of slab `t` is row `16 t + i` of column block `c`'s product. -/
def sAll (x : Vec F S128x4096 .bf16) (v2 : Vec F S256x256 .bf16) : Vec F S8x256x256 .bf16 := fun y =>
  sPiece x v2 ⟨(y 0).val, (y 0).isLt⟩ ⟨(y 1).val / 16, by have : (y 1).val < 256 := (y 1).isLt; omega⟩
    (ix3 0 ⟨(y 1).val % 16, Nat.mod_lt _ (by decide)⟩ ⟨(y 2).val, (y 2).isLt⟩)

/-- Slab `t` of the first scratch array lies inside it. -/
theorem sSlab_inb (t : Fin 8) : ∀ a, (![t.val, 0, 0] : Fin 3 → ℕ) a + S1x256x256.size a ≤ S8x256x256.size a := by
  intro a; fin_cases a
  · show t.val + 1 ≤ 8; omega
  · exact Nat.le_refl _
  · exact Nat.le_refl _
/-- Slab `t` of the first scratch array. -/
def sSlab (s : Vec F S8x256x256 .bf16) (t : Fin 8) : Vec F S1x256x256 .bf16 :=
  View.ld s (Rect.unit ![t.val, 0, 0] S1x256x256.size (sSlab_inb t))

/-- A sixteen-row group of a slab's product lies inside it. -/
theorem zRows_slices (a : Fin 16) : S256x256.Slices ![16 * a.val, 0] S16x256 :=
  ⟨rfl, fun b => by
    fin_cases b
    · show 16 * a.val + 16 ≤ 256; omega
    · exact Nat.le_refl _⟩
/-- The sixteen rows of group `a` of the first Kronecker factor times a slab. -/
def zPieceOf (k1 : FVec F S256x256 .bf16) (slab : Vec F S1x256x256 .bf16) (a : Fin 16) : FVec F S16x256 .bf16 :=
  shapeCast S16x256 (extractStridedSlice S16x256 ![16 * a.val, 0] (k0_pay175 k1 slab) (zRows_slices a)) shapeCasts_S16x256_S16x256

/-- The transformed input: row `16 t + i`, column `256 a + b` is row `16 a + i`, column `b` of slab `t`'s product. -/
def zAll (x : Vec F S128x4096 .bf16) (v1 : Vec F S16x16 .bf16) (v2 : Vec F S256x256 .bf16) : Vec F S128x4096 .bf16 := fun y =>
  zPieceOf (kronOf1 (pad1 v1)) (sSlab (sAll x v2) ⟨(y 0).val / 16, by have : (y 0).val < 128 := (y 0).isLt; omega⟩)
    ⟨(y 1).val / 256, by have : (y 1).val < 4096 := (y 1).isLt; omega⟩
    (ix2 ⟨(y 0).val % 16, Nat.mod_lt _ (by decide)⟩ ⟨(y 1).val % 256, Nat.mod_lt _ (by decide)⟩)

/-! ## Every step: the weight block and its product -/

/-- The words of a code block, four code bytes to a word. -/
def words (codes : Vec F S1024x512 .i8) : IVec S256x512 32 := bitcast S256x512 32 codes bitcasts_S1024x512_w8_S256x512_w32
/-- The low two codes of each byte, each in a four-bit field as the signed number four times the code less six. -/
def loWord (w : IVec S256x512 32) : IVec S256x512 32 :=
  xori (andi (shli w (broadcast S256x512 2#32)) (broadcast S256x512 3435973836#32)) (broadcast S256x512 2863311530#32)
/-- The high code of each pair likewise. -/
def hiWord (w : IVec S256x512 32) : IVec S256x512 32 :=
  xori (andi w (broadcast S256x512 3435973836#32)) (broadcast S256x512 2863311530#32)

/-- Field `i` of each word, as one row of a group of eight. -/
def fieldRow (w : IVec S256x512 32) (i : Fin 8) : IVec S256x1x512 32 :=
  shapeCast S256x1x512 (shrsi w (broadcast S256x512 (BitVec.ofNat 32 (4 * i.val)))) shapeCasts_S256x512_S256x1x512
/-- The eight four-bit fields of each word, one row each: row `8 q + i` is field `i` of word row `q`. -/
def fields (w : IVec S256x512 32) : IVec S2048x512 4 :=
  trunci 4 (shapeCast S2048x512 (concatenate S256x8x512 1 [⟨S256x1x512, fieldRow w 0⟩, ⟨S256x1x512, fieldRow w 1⟩,
    ⟨S256x1x512, fieldRow w 2⟩, ⟨S256x1x512, fieldRow w 3⟩, ⟨S256x1x512, fieldRow w 4⟩, ⟨S256x1x512, fieldRow w 5⟩,
    ⟨S256x1x512, fieldRow w 6⟩, ⟨S256x1x512, fieldRow w 7⟩]
    concatenates_S256x1x512_S256x1x512_S256x1x512_S256x1x512_S256x1x512_S256x1x512_S256x1x512_S256x1x512_S256x8x512_d1)
    shapeCasts_S256x8x512_S2048x512) natLt_4_32

/-- A sixty-four-row group of the fields lies inside them. -/
theorem fRows_slices (g : Fin 32) : S2048x512.Slices ![64 * g.val, 0] S64x512 :=
  ⟨rfl, fun b => by
    fin_cases b
    · show 64 * g.val + 64 ≤ 2048; omega
    · exact Nat.le_refl _⟩
/-- One row of the scales lies inside them. -/
theorem scRow_slices (g : Fin 32) : S32x512.Slices ![g.val, 0] S1x512 :=
  ⟨rfl, fun b => by
    fin_cases b
    · show g.val + 1 ≤ 32; omega
    · exact Nat.le_refl _⟩
/-- The sixty-four decoded weight rows of scale group `g` from one of the two field arrays. -/
def wPiece (f : IVec S2048x512 4) (s : FVec F S32x512 .f32) (g : Fin 32) : FVec F S64x512 .bf16 :=
  mulf (sitofp .bf16 (extractStridedSlice S64x512 ![64 * g.val, 0] f (fRows_slices g)))
    (truncf .bf16 (broadcastTo S64x512 (shapeCast S1x512 (extractStridedSlice S1x512 ![g.val, 0] s (scRow_slices g))
      shapeCasts_S1x512_S1x512) broadcasts_S1x512_S64x512) bitsLt_bf16_f32)
/-- The pieces of the decoded weight block in order: for each scale group, its even rows and then its odd rows. -/
def wPieces (codes : Vec F S1024x512 .i8) (scale : Vec F S32x512 .f32) (n : Fin 64) : FVec F S64x512 .bf16 :=
  wPiece (if n.val % 2 = 0 then fields (loWord (words codes)) else fields (hiWord (words codes))) (k0_pay594 scale)
    ⟨n.val / 2, by omega⟩

/-- Sixty-four pieces of sixty-four rows make the weight block. -/
theorem wCat (f : Fin 64 → FVec F S64x512 .bf16) :
    Shape.Concatenates ((List.ofFn fun n => (⟨S64x512, f n⟩ : (s : Shape) × FVec F s .bf16)).map (·.1)) S4096x512 0 := by
  rw [List.map_ofFn]; exact (by decide : Shape.Concatenates (List.ofFn fun _ : Fin 64 => S64x512) S4096x512 0)
/-- The decoded weight block: its rows are the pieces in order. -/
def wBlk (codes : Vec F S1024x512 .i8) (scale : Vec F S32x512 .f32) : FVec F S4096x512 .bf16 :=
  concatenate S4096x512 0 (List.ofFn fun n => ⟨S64x512, wPieces codes scale n⟩) (wCat _)

/-- One step's product: the transformed input times the decoded block, rounded, times the transposed output factor. -/
def rBlk (z : Vec F S128x4096 .bf16) (codes : Vec F S1024x512 .i8) (scale : Vec F S32x512 .f32) (u2 : Vec F S512x512 .bf16) :
    FVec F S128x512 .f32 :=
  matmul dot_S128x512_S512x512_S128x512_1_1_0_0_n_n none
    (truncf .bf16 (matmul dot_S128x4096_S4096x512_S128x512_1_0_0_1_n_n none z (wBlk codes scale)
      (constant S128x512 .f32 0x00000000#32)) bitsLt_bf16_f32) u2 (constant S128x512 .f32 0x00000000#32)

/-- Eight rows of a step's product lie inside it. -/
theorem rRows_slices (t : Fin 16) : S128x512.Slices ![8 * t.val, 0] S8x512 :=
  ⟨rfl, fun b => by
    fin_cases b
    · show 8 * t.val + 8 ≤ 128; omega
    · exact Nat.le_refl _⟩
/-- The eight rows of group `t` of a step's product. -/
def rPiece (r : FVec F S128x512 .f32) (t : Fin 16) : FVec F S1x8x512 .f32 :=
  shapeCast S1x8x512 (extractStridedSlice S8x512 ![8 * t.val, 0] r (rRows_slices t)) shapeCasts_S8x512_S1x8x512

/-- Where the eight rows of group `n` go at a grid point: slab `n`, rows from eight times the point's number. -/
def offR (n : Fin 16) : grid0.Coords → Fin 3 → ℕ :=
  (![k0_off1, k0_off2, k0_off3, k0_off4, k0_off5, k0_off6, k0_off7, k0_off8, k0_off9, k0_off10, k0_off11, k0_off12,
    k0_off13, k0_off14, k0_off15, k0_off16] : Fin 16 → grid0.Coords → Fin 3 → ℕ) n
/-- That place in plain numbers. -/
theorem offR_eq : ∀ (n : Fin 16) (i : grid0.Coords), offR n i = ![n.val, 8 * (i 0).val, 0] := by decide +kernel
/-- It lies inside the array of collected products. -/
theorem offR_inb (n : Fin 16) (i : grid0.Coords) : ∀ a, offR n i a + S1x8x512.size a ≤ S16x224x512.size a := by
  have hi : (i 0).val < 28 := (i 0).isLt
  rw [offR_eq]; intro a; fin_cases a
  · show n.val + 1 ≤ 16; omega
  · show 8 * (i 0).val + 8 ≤ 224; omega
  · exact Nat.le_refl _
/-- The sixteen pieces a step stores into the collected products, the last stored first. -/
def rList (i : grid0.Coords) (r : FVec F S128x512 .f32) : List (View.Piece (Elt F) S16x224x512 .f32) :=
  List.ofFn fun n : Fin 16 => ⟨Rect.unit (offR ⟨15 - n.val, by omega⟩ i) S1x8x512.size (offR_inb _ i), rPiece r ⟨15 - n.val, by omega⟩⟩

/-! ## The last step: the output -/

/-- The last factor in the corner of a zero 256 by 256 array. -/
def pad2 (u1 : Vec F S28x28 .bf16) : Vec F S256x256 .f32 := fun y =>
  if h : (y 0).val < 28 ∧ (y 1).val < 28 then k0_pay326 u1 (ix2 ⟨(y 0).val, h.1⟩ ⟨(y 1).val, h.2⟩) else k0_pay325 (F := F) y
/-- The Kronecker product of a padded array's corner with the 8 by 8 identity, 224 by 224. -/
def kronOf2 (pad : Vec F S256x256 .f32) : FVec F S224x224 .bf16 :=
  k0_pay335 iotaCol (k0_pay331 (k0_pay327 pad) iotaRow iotaCol k0_pay328 k0_pay329 k0_pay330) 8#32
    (k0_pay332 iotaRow) (k0_pay333 iotaRow) (k0_pay334 iotaRow) 0#1

/-- One slab of the collected products lies inside them. -/
theorem rSlab_inb (t : Fin 16) : ∀ a, (![t.val, 0, 0] : Fin 3 → ℕ) a + S1x224x512.size a ≤ S16x224x512.size a := by
  intro a; fin_cases a
  · show t.val + 1 ≤ 16; omega
  · exact Nat.le_refl _
  · exact Nat.le_refl _
/-- The second Kronecker factor times a slab of the collected products. -/
def yBlkOf (k2 : FVec F S224x224 .bf16) (r : Vec F S16x224x512 .f32) (t : Fin 16) : FVec F S224x512 .f32 :=
  matmul dot_S224x224_S224x512_S224x512_1_0_0_1_n_n none k2
    (truncf .bf16 (shapeCast S224x512 (View.ld r (Rect.unit ![t.val, 0, 0] S1x224x512.size (rSlab_inb t)))
      shapeCasts_S1x224x512_S224x512) bitsLt_bf16_f32) (constant S224x512 .f32 0x00000000#32)

/-- Eight rows of a slab's product lie inside it. -/
theorem yRows_slices (a : Fin 28) : S224x512.Slices ![8 * a.val, 0] S8x512 :=
  ⟨rfl, fun b => by
    fin_cases b
    · show 8 * a.val + 8 ≤ 224; omega
    · exact Nat.le_refl _⟩
/-- The piece of the output from slabs `2 t` and `2 t + 1`: eight rows of group `a` from each. -/
def yPieceOf (k2 : FVec F S224x224 .bf16) (r : Vec F S16x224x512 .f32) (t : Fin 8) (a : Fin 28) : FVec F S16x512 .bf16 :=
  truncf .bf16 (concatenate S16x512 0
    [⟨S8x512, extractStridedSlice S8x512 ![8 * a.val, 0] (yBlkOf k2 r ⟨2 * t.val, by omega⟩) (yRows_slices a)⟩,
     ⟨S8x512, extractStridedSlice S8x512 ![8 * a.val, 0] (yBlkOf k2 r ⟨2 * t.val + 1, by omega⟩) (yRows_slices a)⟩]
    concatenates_S8x512_S8x512_S16x512_d0) bitsLt_bf16_f32

/-- The output block: row `16 t + i`, column `512 a + q` is entry `(i, q)` of piece `(t, a)`. -/
def yAll (u1 : Vec F S28x28 .bf16) (r : Vec F S16x224x512 .f32) : Vec F S128x14336 .bf16 := fun y =>
  yPieceOf (kronOf2 (pad2 u1)) r ⟨(y 0).val / 16, by have : (y 0).val < 128 := (y 0).isLt; omega⟩
    ⟨(y 1).val / 512, by have : (y 1).val < 14336 := (y 1).isLt; omega⟩
    (ix2 ⟨(y 0).val % 16, Nat.mod_lt _ (by decide)⟩ ⟨(y 1).val % 512, Nat.mod_lt _ (by decide)⟩)

end Cert.KernelIdeal.Hand

end
-- ==== Proof.ListB.lean ====
/- The pieces the kernel body's stores leave at a middle step are the ones the plain definitions give. -/
module

public import proofs.«01_k».proof.Proof.RunB
public import proofs.«01_k».proof.Proof.Model

@[expose] public section

set_option maxRecDepth 16384

noncomputable section

namespace Cert.KernelIdeal.Hand

open Idealize.ShloMosaic Idealize.ShloMosaic.TcCoe Idealize.ShloMosaic.Tactic Idealize.SL.Sem
open Cert.KernelIdeal.Gen

variable {F : FTy → Type} [FloatOps F]

/-- The pieces of the step's product are the ones of the plain definition. -/
theorem runB_rList (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x512 .i8) (harg4 : arg4.IsWhole) (arg5 : Memref sig .tc .vmem S32x512 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S128x4096 .bf16) (harg9 : arg9.IsWhole) (arg10 : Memref sig .tc .vmem S8x256x256 .bf16) (harg10 : arg10.IsWhole) (arg11 : Memref sig .tc .vmem S16x224x512 .f32) (harg11 : arg11.IsWhole) (arg12 : Memref sig .tc .vmem S256x256 .f32) (harg12 : arg12.IsWhole) (hc0 : ¬cond0_0 i) (hc1 : ¬cond0_1 i)
    (x0 : Vec F S128x4096 .bf16) (x1 : Vec F S16x16 .bf16) (x2 : Vec F S256x256 .bf16) (x3 : Vec F S1024x512 .i8) (x4 : Vec F S32x512 .f32) (x5 : Vec F S28x28 .bf16) (x6 : Vec F S512x512 .bf16) (xs0 : Vec F S128x4096 .bf16) (xs2 : Vec F S16x224x512 .f32) :
    (runB c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs2).val = rList i (rBlk
      (View.ld (arg9.view.read (Elt F) (harg9.unread xs0)) (Rect.unit ![0, 0] S128x4096.size inb_S128x4096_S128x4096_0_0))
      (View.ld (arg4.view.read (Elt F) (harg4.unread x3)) (Rect.unit ![0, 0] S1024x512.size inb_S1024x512_S1024x512_0_0))
      (View.ld (arg5.view.read (Elt F) (harg5.unread x4)) (Rect.unit ![0, 0] S32x512.size inb_S32x512_S32x512_0_0))
      (View.ld (arg7.view.read (Elt F) (harg7.unread x6)) (Rect.unit ![0, 0] S512x512.size inb_S512x512_S512x512_0_0))) := by
  sl_kernel_rfl

end Cert.KernelIdeal.Hand

end
-- ==== Proof.RunA.lean ====
/- The run of the kernel body at step zero: its triple, found by symbolic execution of the printed body, with the pieces
   its stores leave in each buffer the proof follows as the witness. -/
module

public import proofs.«01_k».proof.Proof.Runs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 4080000 in
/-- Step zero (the first block taken, the last not): the pieces `LS` it stores into the scratch `arg9` and the pieces `LR` it
    stores over what the scratch `arg11` held (`xs2`), WITH the proof that the body runs from the inputs' buffers at their
    contents to a continuation holding the inputs as they were and the two scratch buffers with those pieces written. -/
noncomputable def runA (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x512 .i8) (harg4 : arg4.IsWhole) (arg5 : Memref sig .tc .vmem S32x512 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S128x4096 .bf16) (harg9 : arg9.IsWhole) (arg10 : Memref sig .tc .vmem S8x256x256 .bf16) (harg10 : arg10.IsWhole) (arg11 : Memref sig .tc .vmem S16x224x512 .f32) (harg11 : arg11.IsWhole) (arg12 : Memref sig .tc .vmem S256x256 .f32) (harg12 : arg12.IsWhole) (hc0 : cond0_0 i) (hc1 : ¬cond0_1 i)
    (x0 : Vec F S128x4096 .bf16) (x1 : Vec F S16x16 .bf16) (x2 : Vec F S256x256 .bf16) (x3 : Vec F S1024x512 .i8) (x4 : Vec F S32x512 .f32) (x5 : Vec F S28x28 .bf16) (x6 : Vec F S512x512 .bf16) (xs2 : Vec F S16x224x512 .f32) :
    Σ' (LS : List (View.Piece (Elt F) S128x4096 .bf16)), { LR : List (View.Piece (Elt F) S16x224x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs2 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ f, arg9.view.loc (c : Thread nD τ) ↦[arg9.view.set]{fullShare} arg9.view.writes (Elt F) f LS) ∗ (∃ d, owns (c : Thread nD τ) arg10 fullShare d) ∗ owns (c : Thread nD τ) arg11 fullShare (arg11.view.read (Elt F) (arg11.view.writes (Elt F) (harg11.unread xs2) LR)) ∗ (∃ d, owns (c : Thread nD τ) arg12 fullShare d)) -∗ K ⟨⟩))
          ⊢ wp frame (wpE (defs₀ (F := F)) Variants.none c none) E (cc0_quip_linear i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0_quip_linear_eq_skeleton]; unfold cc0_quip_linear_skel
    simp only [k0_part76_eq_skeleton, k0_part40_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d9, %fs0, -, HS0⟩, ⟨%ds1, %fs1, -, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg11.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [HS0]; · iexists _; iexact HS0
    isplitl [HS1]
    · iexists _, _; isplitr; swap; · iexact HS1
      ipureintro; rfl
    isplitl [HS2]
    · iexists _; isplitr; swap; · iexact HS2
      ipureintro; rfl
    iexists _, _; isplitr; swap; · iexact HS3
    ipureintro; rfl

end Cert.KernelIdeal.Hand

end
-- ==== Proof.ListA.lean ====
/- The pieces the kernel body's stores leave at step zero are the ones the plain definitions give: each list the run of the
   body found is compared with one list over an index. -/
module

public import proofs.«01_k».proof.Proof.RunA
public import proofs.«01_k».proof.Proof.Model

@[expose] public section

set_option maxRecDepth 16384

noncomputable section

namespace Cert.KernelIdeal.Hand

open Idealize.ShloMosaic Idealize.ShloMosaic.TcCoe Idealize.ShloMosaic.Tactic Idealize.SL.Sem
open Cert.KernelIdeal.Gen

variable {F : FTy → Type} [FloatOps F]

/-! ## The first scratch array -/

/-- Piece `n` of the first scratch array lies inside it. -/
theorem s1_inb (n : Fin 128) : ∀ a, (![7 - n.val % 8, 16 * (15 - n.val / 8), 0] : Fin 3 → ℕ) a + S1x16x256.size a ≤ S8x256x256.size a := by
  intro a; fin_cases a
  · show 7 - n.val % 8 + 1 ≤ 8; omega
  · show 16 * (15 - n.val / 8) + 16 ≤ 256; omega
  · exact Nat.le_refl _

/-- The pieces of the first scratch array, the last stored first. -/
def sList (x : Vec F S128x4096 .bf16) (v2 : Vec F S256x256 .bf16) : List (View.Piece (Elt F) S8x256x256 .bf16) :=
  List.ofFn fun n : Fin 128 => ⟨Rect.unit ![7 - n.val % 8, 16 * (15 - n.val / 8), 0] S1x16x256.size (s1_inb n),
    sPiece x v2 ⟨7 - n.val % 8, by omega⟩ ⟨15 - n.val / 8, by omega⟩⟩

/-- What the run stores into the first scratch array. -/
theorem runA_sList (c : Dev nD) (arg1 : Memref sig .tc .vmem S128x4096 .bf16) (harg1 : arg1.IsWhole)
    (arg3 : Memref sig .tc .vmem S256x256 .bf16) (harg3 : arg3.IsWhole) (x0 : Vec F S128x4096 .bf16) (x2 : Vec F S256x256 .bf16) :
    runA.sl.HS1_128 c arg1 harg1 arg3 harg3 x0 x2 = sList (arg1.view.read (Elt F) (harg1.unread x0))
      (View.ld (arg3.view.read (Elt F) (harg3.unread x2)) (Rect.unit ![0, 0] S256x256.size inb_S256x256_S256x256_0_0)) := by
  sl_kernel_rfl

/-! ## The transformed input -/

/-- Piece `n` of the transformed input lies inside it. -/
theorem z_inb (n : Fin 128) : ∀ a, (![16 * (7 - n.val / 16), 256 * (15 - n.val % 16)] : Fin 2 → ℕ) a + S16x256.size a ≤ S128x4096.size a := by
  intro a; fin_cases a
  · show 16 * (7 - n.val / 16) + 16 ≤ 128; omega
  · show 256 * (15 - n.val % 16) + 256 ≤ 4096; omega

/-- The pieces of the transformed input, the last stored first. -/
def zList (k1 : FVec F S256x256 .bf16) (slab : Fin 8 → Vec F S1x256x256 .bf16) : List (View.Piece (Elt F) S128x4096 .bf16) :=
  List.ofFn fun n : Fin 128 => ⟨Rect.unit ![16 * (7 - n.val / 16), 256 * (15 - n.val % 16)] S16x256.size (z_inb n),
    zPieceOf k1 (slab ⟨7 - n.val / 16, by omega⟩) ⟨15 - n.val % 16, by omega⟩⟩

/-- The pieces of the padded array: the transposed factor over a zero array. -/
def padList1 (v1 : Vec F S16x16 .bf16) : List (View.Piece (Elt F) S256x256 .f32) :=
  [⟨Rect.unit ![0, 0] S16x16.size inb_S256x256_S16x16_0_0, k0_pay9 v1⟩,
   ⟨Rect.unit ![0, 0] S256x256.size inb_S256x256_S256x256_0_0, k0_pay8⟩]

/-- What the run stores into the padded array. -/
theorem runA_padList (c : Dev nD) (arg2 : Memref sig .tc .vmem S16x16 .bf16) (harg2 : arg2.IsWhole) (x1 : Vec F S16x16 .bf16) :
    runA.sl.HS3_2 c arg2 harg2 x1 = padList1 (View.ld (arg2.view.read (Elt F) (harg2.unread x1))
      (Rect.unit ![0, 0] S16x16.size inb_S16x16_S16x16_0_0)) := by
  sl_kernel_rfl

/-- The first Kronecker factor the run computes. -/
theorem runA_kron (c : Dev nD) (arg2 : Memref sig .tc .vmem S16x16 .bf16) (harg2 : arg2.IsWhole)
    (arg12 : Memref sig .tc .vmem S256x256 .f32) (x1 : Vec F S16x16 .bf16) :
    runA.sl.r_4 c arg2 harg2 arg12 x1 = kronOf1 (arg12.view.readCov (runA.sl.HS3_2 c arg2 harg2 x1)
      (Rect.unit ![0, 0] S256x256.size inb_S256x256_S256x256_0_0).toLoadRect) := by
  sl_kernel_rfl

/-- What the run stores into the transformed input, from the first scratch array as its stores leave it. -/
theorem runA_zList (c : Dev nD) (arg1 : Memref sig .tc .vmem S128x4096 .bf16) (harg1 : arg1.IsWhole)
    (arg2 : Memref sig .tc .vmem S16x16 .bf16) (harg2 : arg2.IsWhole)
    (arg3 : Memref sig .tc .vmem S256x256 .bf16) (harg3 : arg3.IsWhole) (arg10 : Memref sig .tc .vmem S8x256x256 .bf16)
    (arg12 : Memref sig .tc .vmem S256x256 .f32) (x0 : Vec F S128x4096 .bf16) (x1 : Vec F S16x16 .bf16) (x2 : Vec F S256x256 .bf16) :
    runA.sl.HS0_128 c arg1 harg1 arg2 harg2 arg3 harg3 arg10 arg12 x0 x1 x2 = zList (runA.sl.r_4 c arg2 harg2 arg12 x1)
      (fun t => arg10.view.readCov (runA.sl.HS1_128 c arg1 harg1 arg3 harg3 x0 x2) (Rect.unit (s := S8x256x256) ![t.val, 0, 0] S1x256x256.size (sSlab_inb t)).toLoadRect) := by
  sl_kernel_rfl

/-! ## The step's product -/

/-- The pieces of the step's product are the ones of the plain definition, over the transformed input read back. -/
theorem runA_rList (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x512 .i8) (harg4 : arg4.IsWhole) (arg5 : Memref sig .tc .vmem S32x512 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S128x4096 .bf16) (harg9 : arg9.IsWhole) (arg10 : Memref sig .tc .vmem S8x256x256 .bf16) (harg10 : arg10.IsWhole) (arg11 : Memref sig .tc .vmem S16x224x512 .f32) (harg11 : arg11.IsWhole) (arg12 : Memref sig .tc .vmem S256x256 .f32) (harg12 : arg12.IsWhole) (hc0 : cond0_0 i) (hc1 : ¬cond0_1 i)
    (x0 : Vec F S128x4096 .bf16) (x1 : Vec F S16x16 .bf16) (x2 : Vec F S256x256 .bf16) (x3 : Vec F S1024x512 .i8) (x4 : Vec F S32x512 .f32) (x5 : Vec F S28x28 .bf16) (x6 : Vec F S512x512 .bf16) (xs2 : Vec F S16x224x512 .f32) :
    (runA c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs2).2.val = rList i (rBlk
      (arg9.view.readCov (runA.sl.HS0_128 c arg1 harg1 arg2 harg2 arg3 harg3 arg10 arg12 x0 x1 x2) (Rect.unit ![0, 0] S128x4096.size inb_S128x4096_S128x4096_0_0).toLoadRect)
      (View.ld (arg4.view.read (Elt F) (harg4.unread x3)) (Rect.unit ![0, 0] S1024x512.size inb_S1024x512_S1024x512_0_0))
      (View.ld (arg5.view.read (Elt F) (harg5.unread x4)) (Rect.unit ![0, 0] S32x512.size inb_S32x512_S32x512_0_0))
      (View.ld (arg7.view.read (Elt F) (harg7.unread x6)) (Rect.unit ![0, 0] S512x512.size inb_S512x512_S512x512_0_0))) := by
  sl_kernel_rfl

/-- The list of the transformed input's pieces the run states. -/
theorem runA_fst (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x512 .i8) (harg4 : arg4.IsWhole) (arg5 : Memref sig .tc .vmem S32x512 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S128x4096 .bf16) (harg9 : arg9.IsWhole) (arg10 : Memref sig .tc .vmem S8x256x256 .bf16) (harg10 : arg10.IsWhole) (arg11 : Memref sig .tc .vmem S16x224x512 .f32) (harg11 : arg11.IsWhole) (arg12 : Memref sig .tc .vmem S256x256 .f32) (harg12 : arg12.IsWhole) (hc0 : cond0_0 i) (hc1 : ¬cond0_1 i)
    (x0 : Vec F S128x4096 .bf16) (x1 : Vec F S16x16 .bf16) (x2 : Vec F S256x256 .bf16) (x3 : Vec F S1024x512 .i8) (x4 : Vec F S32x512 .f32) (x5 : Vec F S28x28 .bf16) (x6 : Vec F S512x512 .bf16) (xs2 : Vec F S16x224x512 .f32) :
    (runA c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs2).1 = runA.sl.HS0_128 c arg1 harg1 arg2 harg2 arg3 harg3 arg10 arg12 x0 x1 x2 := by
  sl_kernel_rfl

end Cert.KernelIdeal.Hand

end
-- ==== Proof.RunC.lean ====
/- The run of the kernel body at the last step: its triple, found by symbolic execution of the printed body, with the pieces
   its stores leave in each buffer the proof follows as the witness. -/
module

public import proofs.«01_k».proof.Proof.Runs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 2716000 in
/-- The last step (the last block taken, the first not): the pieces `LY` it stores into the output's buffer and the pieces `LR` it
    stores over what the scratch `arg11` held (`xs2`), the scratch `arg9` at `xs0`, WITH the proof that the body runs to a
    continuation holding the inputs and `arg9` as they were and the two written buffers with those pieces. -/
noncomputable def runC (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x512 .i8) (harg4 : arg4.IsWhole) (arg5 : Memref sig .tc .vmem S32x512 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S128x4096 .bf16) (harg9 : arg9.IsWhole) (arg10 : Memref sig .tc .vmem S8x256x256 .bf16) (harg10 : arg10.IsWhole) (arg11 : Memref sig .tc .vmem S16x224x512 .f32) (harg11 : arg11.IsWhole) (arg12 : Memref sig .tc .vmem S256x256 .f32) (harg12 : arg12.IsWhole) (hc0 : ¬cond0_0 i) (hc1 : cond0_1 i)
    (x0 : Vec F S128x4096 .bf16) (x1 : Vec F S16x16 .bf16) (x2 : Vec F S256x256 .bf16) (x3 : Vec F S1024x512 .i8) (x4 : Vec F S32x512 .f32) (x5 : Vec F S28x28 .bf16) (x6 : Vec F S512x512 .bf16) (xs0 : Vec F S128x4096 .bf16) (xs2 : Vec F S16x224x512 .f32) :
    Σ' (LY : List (View.Piece (Elt F) S128x14336 .bf16)), { LR : List (View.Piece (Elt F) S16x224x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ (∃ d, owns (c : Thread nD τ) arg10 fullShare d) ∗ owns (c : Thread nD τ) arg11 fullShare xs2 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f LY) ∗ owns (c : Thread nD τ) arg9 fullShare xs0 ∗ (∃ d, owns (c : Thread nD τ) arg10 fullShare d) ∗ owns (c : Thread nD τ) arg11 fullShare (arg11.view.read (Elt F) (arg11.view.writes (Elt F) (harg11.unread xs2) LR)) ∗ (∃ d, owns (c : Thread nD τ) arg12 fullShare d)) -∗ K ⟨⟩))
          ⊢ wp frame (wpE (defs₀ (F := F)) Variants.none c none) E (cc0_quip_linear i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0_quip_linear_eq_skeleton]; unfold cc0_quip_linear_skel
    simp only [k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part75_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg9.eq_unread hfs0
    obtain rfl := harg11.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]
    · iexists _; isplitr; · ipureintro; exact harg9.read_unread _
      iexact HS0
    isplitl [HS1]
    · iexists _, _; isplitr; swap; · iexact HS1
      ipureintro; rfl
    isplitl [HS2]
    · iexists _; isplitr; swap; · iexact HS2
      ipureintro; rfl
    iexists _, _; isplitr; swap; · iexact HS3
    ipureintro; rfl

end Cert.KernelIdeal.Hand

end
-- ==== Proof.ListC.lean ====
/- The pieces the kernel body's stores leave at the last step are the ones the plain definitions give. -/
module

public import proofs.«01_k».proof.Proof.RunC
public import proofs.«01_k».proof.Proof.Model

@[expose] public section

set_option maxRecDepth 16384

noncomputable section

namespace Cert.KernelIdeal.Hand

open Idealize.ShloMosaic Idealize.ShloMosaic.TcCoe Idealize.ShloMosaic.Tactic Idealize.SL.Sem
open Cert.KernelIdeal.Gen

variable {F : FTy → Type} [FloatOps F]

/-- The pieces of the step's product are the ones of the plain definition. -/
theorem runC_rList (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x512 .i8) (harg4 : arg4.IsWhole) (arg5 : Memref sig .tc .vmem S32x512 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S128x4096 .bf16) (harg9 : arg9.IsWhole) (arg10 : Memref sig .tc .vmem S8x256x256 .bf16) (harg10 : arg10.IsWhole) (arg11 : Memref sig .tc .vmem S16x224x512 .f32) (harg11 : arg11.IsWhole) (arg12 : Memref sig .tc .vmem S256x256 .f32) (harg12 : arg12.IsWhole) (hc0 : ¬cond0_0 i) (hc1 : cond0_1 i)
    (x0 : Vec F S128x4096 .bf16) (x1 : Vec F S16x16 .bf16) (x2 : Vec F S256x256 .bf16) (x3 : Vec F S1024x512 .i8) (x4 : Vec F S32x512 .f32) (x5 : Vec F S28x28 .bf16) (x6 : Vec F S512x512 .bf16) (xs0 : Vec F S128x4096 .bf16) (xs2 : Vec F S16x224x512 .f32) :
    ((runC c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs2).2).val = rList i (rBlk
      (View.ld (arg9.view.read (Elt F) (harg9.unread xs0)) (Rect.unit ![0, 0] S128x4096.size inb_S128x4096_S128x4096_0_0))
      (View.ld (arg4.view.read (Elt F) (harg4.unread x3)) (Rect.unit ![0, 0] S1024x512.size inb_S1024x512_S1024x512_0_0))
      (View.ld (arg5.view.read (Elt F) (harg5.unread x4)) (Rect.unit ![0, 0] S32x512.size inb_S32x512_S32x512_0_0))
      (View.ld (arg7.view.read (Elt F) (harg7.unread x6)) (Rect.unit ![0, 0] S512x512.size inb_S512x512_S512x512_0_0))) := by
  sl_kernel_rfl

/-- Piece `n` of the output lies inside it. -/
theorem y_inb (n : Fin 224) : ∀ a, (![16 * (7 - n.val / 28), 512 * (27 - n.val % 28)] : Fin 2 → ℕ) a + S16x512.size a ≤ S128x14336.size a := by
  intro a; fin_cases a
  · show 16 * (7 - n.val / 28) + 16 ≤ 128; omega
  · show 512 * (27 - n.val % 28) + 512 ≤ 14336; omega

/-- The pieces of the output, the last stored first. -/
def yList (k2 : FVec F S224x224 .bf16) (r : Vec F S16x224x512 .f32) : List (View.Piece (Elt F) S128x14336 .bf16) :=
  List.ofFn fun n : Fin 224 => ⟨Rect.unit ![16 * (7 - n.val / 28), 512 * (27 - n.val % 28)] S16x512.size (y_inb n),
    yPieceOf k2 r ⟨7 - n.val / 28, by omega⟩ ⟨27 - n.val % 28, by omega⟩⟩

/-- The pieces of the padded array: the factor over a zero array. -/
def padList2 (u1 : Vec F S28x28 .bf16) : List (View.Piece (Elt F) S256x256 .f32) :=
  [⟨Rect.unit ![0, 0] S28x28.size inb_S256x256_S28x28_0_0, k0_pay326 u1⟩,
   ⟨Rect.unit ![0, 0] S256x256.size inb_S256x256_S256x256_0_0, k0_pay325⟩]

/-- What the run stores into the padded array. -/
theorem runC_padList (c : Dev nD) (arg6 : Memref sig .tc .vmem S28x28 .bf16) (harg6 : arg6.IsWhole) (x5 : Vec F S28x28 .bf16) :
    runC.sl.HS3_2 c arg6 harg6 x5 = padList2 (View.ld (arg6.view.read (Elt F) (harg6.unread x5))
      (Rect.unit ![0, 0] S28x28.size inb_S28x28_S28x28_0_0)) := by
  sl_kernel_rfl

/-- The second Kronecker factor the run computes. -/
theorem runC_kron (c : Dev nD) (arg6 : Memref sig .tc .vmem S28x28 .bf16) (harg6 : arg6.IsWhole)
    (arg12 : Memref sig .tc .vmem S256x256 .f32) (x5 : Vec F S28x28 .bf16) :
    runC.sl.r_91 c arg6 harg6 arg12 x5 = kronOf2 (arg12.view.readCov (runC.sl.HS3_2 c arg6 harg6 x5)
      (Rect.unit ![0, 0] S256x256.size inb_S256x256_S256x256_0_0).toLoadRect) := by
  sl_kernel_rfl

/-- The pieces of the output, from the collected products as the step's stores leave them. -/
theorem runC_yList (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x512 .i8) (harg4 : arg4.IsWhole) (arg5 : Memref sig .tc .vmem S32x512 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S128x4096 .bf16) (harg9 : arg9.IsWhole) (arg10 : Memref sig .tc .vmem S8x256x256 .bf16) (harg10 : arg10.IsWhole) (arg11 : Memref sig .tc .vmem S16x224x512 .f32) (harg11 : arg11.IsWhole) (arg12 : Memref sig .tc .vmem S256x256 .f32) (harg12 : arg12.IsWhole) (hc0 : ¬cond0_0 i) (hc1 : cond0_1 i)
    (x0 : Vec F S128x4096 .bf16) (x1 : Vec F S16x16 .bf16) (x2 : Vec F S256x256 .bf16) (x3 : Vec F S1024x512 .i8) (x4 : Vec F S32x512 .f32) (x5 : Vec F S28x28 .bf16) (x6 : Vec F S512x512 .bf16) (xs0 : Vec F S128x4096 .bf16) (xs2 : Vec F S16x224x512 .f32) :
    (runC c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs2).1 = yList (runC.sl.r_91 c arg6 harg6 arg12 x5)
      (arg11.view.read (Elt F) (arg11.view.writes (Elt F) (harg11.unread xs2) (runC c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs2).2.val)) := by
  sl_kernel_rfl

end Cert.KernelIdeal.Hand

end
-- ==== Proof.Reads.lean ====
/- Reading stored pieces back: pieces given by an index whose payloads all agree with one array, and which cover it, leave
   that array; the three arrays the kernel keeps between its steps are read this way. -/
module

public import proofs.«01_k».proof.Proof.ListA
public import proofs.«01_k».proof.Proof.ListC

@[expose] public section

set_option maxRecDepth 16384

noncomputable section

namespace Cert.KernelIdeal.Hand

open Idealize.ShloMosaic Idealize.ShloMosaic.TcCoe Idealize.SL.Sem
open Cert.KernelIdeal.Gen

variable {F : FTy → Type} [FloatOps F]

/-- Pieces given by an index, all agreeing with one array and covering it, leave that array. -/
theorem read_ofFn {S : Shape} {e : EltTy} {N : ℕ} (v : View sig .tc .vmem S e) (f : v.ty.Contents (Elt F))
    (P : Fin N → View.Piece (Elt F) S e) (G : S.Idx → Elt F e)
    (h : ∀ n x, (P n).2 x = G ((P n).1.emb x)) (cov : ∀ y, ∃ n, y ∈ (P n).1.set) :
    v.read (Elt F) (v.writes (Elt F) f (List.ofFn P)) = G :=
  funext fun y => View.read_writes_apply_of_pieces (Val := Elt F) v f G _
    (fun p hp => by obtain ⟨n, rfl⟩ := List.mem_ofFn.mp hp; exact h n) y
    (by obtain ⟨n, hn⟩ := cov y; exact ⟨P n, List.mem_ofFn.mpr ⟨n, rfl⟩, hn⟩)

/-- Two indices of a three-dimensional array with equal coordinates are equal. -/
theorem idx_ext₃ {a b c : ℕ} {i j : (⟨3, ![a, b, c]⟩ : Shape).Idx} (h0 : (i 0).val = (j 0).val) (h1 : (i 1).val = (j 1).val)
    (h2 : (i 2).val = (j 2).val) : i = j := by
  funext k; fin_cases k
  · exact Fin.ext h0
  · exact Fin.ext h1
  · exact Fin.ext h2

/-- Equal arguments, equal values, for a function of two arguments. -/
theorem app_congr₂ {α β γ : Sort _} (f : α → β → γ) {a a' : α} {b b' : β} (ha : a = a') (hb : b = b') : f a b = f a' b' := by
  rw [ha, hb]
/-- Equal arguments, equal values, for a function of three arguments. -/
theorem app_congr₃ {α β γ δ : Sort _} (f : α → β → γ → δ) {a a' : α} {b b' : β} {c c' : γ} (ha : a = a') (hb : b = b')
    (hc : c = c') : f a b c = f a' b' c' := by rw [ha, hb, hc]

/-- The stores into the first scratch array leave the array of all column blocks' products. -/
theorem read_sList (v : View sig .tc .vmem S8x256x256 .bf16) (f : v.ty.Contents (Elt F)) (x : Vec F S128x4096 .bf16)
    (v2 : Vec F S256x256 .bf16) : v.read (Elt F) (v.writes (Elt F) f (sList x v2)) = sAll x v2 := by
  refine read_ofFn v f _ _ (fun n j => ?_) fun y => ?_
  · have e0 : (j 0).val < 1 := (j 0).isLt
    have e1 : (j 1).val < 16 := (j 1).isLt
    refine app_congr₃ (sPiece x v2) (Fin.ext ?_) (Fin.ext ?_) (idx_ext₃ ?_ ?_ ?_)
    · show 7 - n.val % 8 = 7 - n.val % 8 + 1 * (j 0).val; omega
    · show 15 - n.val / 8 = (16 * (15 - n.val / 8) + 1 * (j 1).val) / 16; omega
    · show (j 0).val = 0; omega
    · show (j 1).val = (16 * (15 - n.val / 8) + 1 * (j 1).val) % 16; omega
    · show (j 2).val = 0 + 1 * (j 2).val; omega
  · have e0 : (y 0).val < 8 := (y 0).isLt
    have e1 : (y 1).val < 256 := (y 1).isLt
    have e2 : (y 2).val < 256 := (y 2).isLt
    refine ⟨⟨8 * (15 - (y 1).val / 16) + (7 - (y 0).val), by omega⟩, (Rect.mem_set_unit (inb := s1_inb _)).mpr fun a => ?_⟩
    fin_cases a
    · show 7 - (8 * (15 - (y 1).val / 16) + (7 - (y 0).val)) % 8 ≤ (y 0).val ∧
        (y 0).val < 7 - (8 * (15 - (y 1).val / 16) + (7 - (y 0).val)) % 8 + 1
      omega
    · show 16 * (15 - (8 * (15 - (y 1).val / 16) + (7 - (y 0).val)) / 8) ≤ (y 1).val ∧
        (y 1).val < 16 * (15 - (8 * (15 - (y 1).val / 16) + (7 - (y 0).val)) / 8) + 16
      omega
    · show 0 ≤ (y 2).val ∧ (y 2).val < 0 + 256
      omega

/-- The stores into the transformed input leave the array whose pieces are the slabs' products. -/
theorem read_zList (v : View sig .tc .vmem S128x4096 .bf16) (f : v.ty.Contents (Elt F)) (k1 : FVec F S256x256 .bf16)
    (slab : Fin 8 → Vec F S1x256x256 .bf16) : v.read (Elt F) (v.writes (Elt F) f (zList k1 slab)) = fun y =>
      zPieceOf k1 (slab ⟨(y 0).val / 16, by have : (y 0).val < 128 := (y 0).isLt; omega⟩)
        ⟨(y 1).val / 256, by have : (y 1).val < 4096 := (y 1).isLt; omega⟩
        (ix2 ⟨(y 0).val % 16, Nat.mod_lt _ (by decide)⟩ ⟨(y 1).val % 256, Nat.mod_lt _ (by decide)⟩) := by
  refine read_ofFn v f _ _ (fun n j => ?_) fun y => ?_
  · have e0 : (j 0).val < 16 := (j 0).isLt
    have e1 : (j 1).val < 256 := (j 1).isLt
    refine app_congr₃ (fun t a i => zPieceOf k1 (slab t) a i) (Fin.ext ?_) (Fin.ext ?_) (Shape.idx_ext₂ ?_ ?_)
    · show 7 - n.val / 16 = (16 * (7 - n.val / 16) + 1 * (j 0).val) / 16; omega
    · show 15 - n.val % 16 = (256 * (15 - n.val % 16) + 1 * (j 1).val) / 256; omega
    · show (j 0).val = (16 * (7 - n.val / 16) + 1 * (j 0).val) % 16; omega
    · show (j 1).val = (256 * (15 - n.val % 16) + 1 * (j 1).val) % 256; omega
  · have e0 : (y 0).val < 128 := (y 0).isLt
    have e1 : (y 1).val < 4096 := (y 1).isLt
    refine ⟨⟨16 * (7 - (y 0).val / 16) + (15 - (y 1).val / 256), by omega⟩, (Rect.mem_set_unit (inb := z_inb _)).mpr fun a => ?_⟩
    fin_cases a
    · show 16 * (7 - (16 * (7 - (y 0).val / 16) + (15 - (y 1).val / 256)) / 16) ≤ (y 0).val ∧
        (y 0).val < 16 * (7 - (16 * (7 - (y 0).val / 16) + (15 - (y 1).val / 256)) / 16) + 16
      omega
    · show 256 * (15 - (16 * (7 - (y 0).val / 16) + (15 - (y 1).val / 256)) % 16) ≤ (y 1).val ∧
        (y 1).val < 256 * (15 - (16 * (7 - (y 0).val / 16) + (15 - (y 1).val / 256)) % 16) + 256
      omega

/-- The two stores into the padded array of step zero. -/
theorem canon_padList1 (v1 : Vec F S16x16 .bf16) : View.canon (padList1 v1) = pad1 v1 := by
  funext y
  by_cases h : (y 0).val < 16 ∧ (y 1).val < 16
  · have e : y = (Rect.unit (s := S256x256) ![0, 0] S16x16.size inb_S256x256_S16x16_0_0).emb (ix2 ⟨(y 0).val, h.1⟩ ⟨(y 1).val, h.2⟩) :=
      Shape.idx_ext₂ (by show (y 0).val = 0 + 1 * (y 0).val; omega) (by show (y 1).val = 0 + 1 * (y 1).val; omega)
    rw [pad1, dif_pos h]
    conv_lhs => rw [e]
    exact View.canon_cons_emb _ _ _ _
  · rw [pad1, dif_neg h, padList1, View.canon_cons_of_not_mem]
    · rw [View.canon_cons_unit_zero (by funext a; fin_cases a <;> rfl)]
    · intro hm
      have := (Rect.mem_set_unit (inb := inb_S256x256_S16x16_0_0)).mp hm
      have h0 : 0 ≤ (y 0).val ∧ (y 0).val < 0 + 16 := this 0
      have h1 : 0 ≤ (y 1).val ∧ (y 1).val < 0 + 16 := this 1
      omega

/-- The two stores into the padded array of the last step. -/
theorem canon_padList2 (u1 : Vec F S28x28 .bf16) : View.canon (padList2 u1) = pad2 u1 := by
  funext y
  by_cases h : (y 0).val < 28 ∧ (y 1).val < 28
  · have e : y = (Rect.unit (s := S256x256) ![0, 0] S28x28.size inb_S256x256_S28x28_0_0).emb (ix2 ⟨(y 0).val, h.1⟩ ⟨(y 1).val, h.2⟩) :=
      Shape.idx_ext₂ (by show (y 0).val = 0 + 1 * (y 0).val; omega) (by show (y 1).val = 0 + 1 * (y 1).val; omega)
    rw [pad2, dif_pos h]
    conv_lhs => rw [e]
    exact View.canon_cons_emb _ _ _ _
  · rw [pad2, dif_neg h, padList2, View.canon_cons_of_not_mem]
    · rw [View.canon_cons_unit_zero (by funext a; fin_cases a <;> rfl)]
    · intro hm
      have := (Rect.mem_set_unit (inb := inb_S256x256_S28x28_0_0)).mp hm
      have h0 : 0 ≤ (y 0).val ∧ (y 0).val < 0 + 28 := this 0
      have h1 : 0 ≤ (y 1).val ∧ (y 1).val < 0 + 28 := this 1
      omega

/-- The stores into the output block leave the output array. -/
theorem read_yList (v : View sig .tc .vmem S128x14336 .bf16) (f : v.ty.Contents (Elt F)) (u1 : Vec F S28x28 .bf16)
    (r : Vec F S16x224x512 .f32) : v.read (Elt F) (v.writes (Elt F) f (yList (kronOf2 (pad2 u1)) r)) = yAll u1 r := by
  refine read_ofFn v f _ _ (fun n j => ?_) fun y => ?_
  · have e0 : (j 0).val < 16 := (j 0).isLt
    have e1 : (j 1).val < 512 := (j 1).isLt
    refine app_congr₃ (fun t a i => yPieceOf (kronOf2 (pad2 u1)) r t a i) (Fin.ext ?_) (Fin.ext ?_) (Shape.idx_ext₂ ?_ ?_)
    · show 7 - n.val / 28 = (16 * (7 - n.val / 28) + 1 * (j 0).val) / 16; omega
    · show 27 - n.val % 28 = (512 * (27 - n.val % 28) + 1 * (j 1).val) / 512; omega
    · show (j 0).val = (16 * (7 - n.val / 28) + 1 * (j 0).val) % 16; omega
    · show (j 1).val = (512 * (27 - n.val % 28) + 1 * (j 1).val) % 512; omega
  · obtain ⟨n, e0, e1⟩ : ∃ n : Fin 224, 7 - n.val / 28 = (y 0).val / 16 ∧ 27 - n.val % 28 = (y 1).val / 512 := by
      have e0 : (y 0).val < 128 := (y 0).isLt
      have e1 : (y 1).val < 14336 := (y 1).isLt
      exact ⟨⟨28 * (7 - (y 0).val / 16) + (27 - (y 1).val / 512), by omega⟩, by dsimp only; omega, by dsimp only; omega⟩
    refine ⟨n, (Rect.mem_set_unit (inb := y_inb _)).mpr fun a => ?_⟩
    fin_cases a
    · show 16 * (7 - n.val / 28) ≤ (y 0).val ∧ (y 0).val < 16 * (7 - n.val / 28) + 16
      omega
    · show 512 * (27 - n.val % 28) ≤ (y 1).val ∧ (y 1).val < 512 * (27 - n.val % 28) + 512
      omega

/-! ## One step's stores into the collected products -/

/-- The collected products after a step: the step's eight rows of every slab are its product's, the rest as before. -/
def rUpd (i : grid0.Coords) (r : FVec F S128x512 .f32) (X : Vec F S16x224x512 .f32) : Vec F S16x224x512 .f32 := fun y =>
  if (y 1).val / 8 = (i 0).val then
    rPiece r ⟨(y 0).val, (y 0).isLt⟩ (ix3 0 ⟨(y 1).val % 8, Nat.mod_lt _ (by decide)⟩ ⟨(y 2).val, (y 2).isLt⟩)
  else X y

/-- An index lies in the place of piece `n` exactly when it is in the step's rows of slab `n`. -/
theorem mem_offR (i : grid0.Coords) (n : Fin 16) (y : S16x224x512.Idx) :
    y ∈ (Rect.unit (s := S16x224x512) (offR n i) S1x8x512.size (offR_inb n i)).set ↔ (y 0).val = n.val ∧ (y 1).val / 8 = (i 0).val := by
  have e2 : (y 2).val < 512 := (y 2).isLt
  rw [Rect.mem_set_unit, offR_eq]
  constructor
  · intro h
    have h0 : n.val ≤ (y 0).val ∧ (y 0).val < n.val + 1 := h 0
    have h1 : 8 * (i 0).val ≤ (y 1).val ∧ (y 1).val < 8 * (i 0).val + 8 := h 1
    omega
  · intro h a
    fin_cases a
    · show n.val ≤ (y 0).val ∧ (y 0).val < n.val + 1; omega
    · show 8 * (i 0).val ≤ (y 1).val ∧ (y 1).val < 8 * (i 0).val + 8; omega
    · show 0 ≤ (y 2).val ∧ (y 2).val < 0 + 512; omega

/-- What a step's sixteen pieces leave in the collected products. -/
theorem read_rList (v : View sig .tc .vmem S16x224x512 .f32) (f : v.ty.Contents (Elt F)) (i : grid0.Coords) (r : FVec F S128x512 .f32) :
    v.read (Elt F) (v.writes (Elt F) f (rList i r)) = rUpd i r (v.read (Elt F) f) := by
  funext y
  by_cases hy : (y 1).val / 8 = (i 0).val
  · refine View.read_writes_apply_of_pieces (Val := Elt F) v f _ _ (fun p hp j => ?_) y ?_
    · obtain ⟨n, rfl⟩ := List.mem_ofFn.mp hp
      have e0 : (j 0).val < 1 := (j 0).isLt
      have e1 : (j 1).val < 8 := (j 1).isLt
      have hm := (mem_offR i ⟨15 - n.val, by omega⟩ _).mp ((Rect.unit (s := S16x224x512) (offR ⟨15 - n.val, by omega⟩ i) S1x8x512.size (offR_inb _ i)).idx_mem j)
      have o : ∀ a, offR ⟨15 - n.val, by omega⟩ i a = (![15 - n.val, 8 * (i 0).val, 0] : Fin 3 → ℕ) a := fun a => by rw [offR_eq]
      have o1 : offR ⟨15 - n.val, by omega⟩ i 1 = 8 * (i 0).val := o 1
      have o2 : offR ⟨15 - n.val, by omega⟩ i 2 = 0 := o 2
      refine Eq.trans ?_ (if_pos hm.2).symm
      refine app_congr₂ (rPiece r) (Fin.ext hm.1.symm) (idx_ext₃ ?_ ?_ ?_)
      · show (j 0).val = 0; omega
      · show (j 1).val = (offR ⟨15 - n.val, _⟩ i 1 + 1 * (j 1).val) % 8; rw [o1]; omega
      · show (j 2).val = offR ⟨15 - n.val, _⟩ i 2 + 1 * (j 2).val; rw [o2]; omega
    · have e0 : (y 0).val < 16 := (y 0).isLt
      refine ⟨_, List.mem_ofFn.mpr ⟨⟨15 - (y 0).val, by omega⟩, rfl⟩, (mem_offR i _ y).mpr ⟨?_, hy⟩⟩
      show (y 0).val = 15 - (15 - (y 0).val); omega
  · rw [rUpd, if_neg hy]
    refine View.read_writes_apply_of_forall_not_mem (Val := Elt F) v f y _ fun p hp hm => ?_
    obtain ⟨n, rfl⟩ := List.mem_ofFn.mp hp
    exact hy ((mem_offR i _ y).mp hm).2

end Cert.KernelIdeal.Hand

end
-- ==== Proof.Steps.lean ====
/- What the kernel body leaves in the buffers the proof follows, step by step, as the plain definitions of the arrays it held
   before: the transformed input after step zero, the collected products after every step, the output after the last. -/
module

public import proofs.«01_k».proof.Proof.ListB
public import proofs.«01_k».proof.Proof.Reads

@[expose] public section

set_option maxRecDepth 16384

noncomputable section

namespace Cert.KernelIdeal.Hand

open Idealize.ShloMosaic Idealize.ShloMosaic.TcCoe Idealize.SL.Sem
open Cert.KernelIdeal.Gen

variable {F : FTy → Type} [FloatOps F]

/-- A two-entry list of zeros is the zero offset. -/
theorem zero₂ : (![0, 0] : Fin 2 → ℕ) = fun _ => 0 := by funext a; fin_cases a <;> rfl

/-- The transformed input, read through its buffer's stores at step zero. -/
theorem read_runA_z (v : View sig .tc .vmem S128x4096 .bf16) (f : v.ty.Contents (Elt F)) (c : Dev nD) (arg1 : Memref sig .tc .vmem S128x4096 .bf16) (harg1 : arg1.IsWhole)
    (arg2 : Memref sig .tc .vmem S16x16 .bf16) (harg2 : arg2.IsWhole)
    (arg3 : Memref sig .tc .vmem S256x256 .bf16) (harg3 : arg3.IsWhole) (arg10 : Memref sig .tc .vmem S8x256x256 .bf16)
    (arg12 : Memref sig .tc .vmem S256x256 .f32) (x0 : Vec F S128x4096 .bf16) (x1 : Vec F S16x16 .bf16) (x2 : Vec F S256x256 .bf16) :
    v.read (Elt F) (v.writes (Elt F) f (runA.sl.HS0_128 c arg1 harg1 arg2 harg2 arg3 harg3 arg10 arg12 x0 x1 x2)) = zAll x0 x1 x2 := by
  have hk : runA.sl.r_4 c arg2 harg2 arg12 x1 = kronOf1 (pad1 x1) := by
    rw [runA_kron, View.readCov_eq_canon', runA_padList, canon_padList1, harg2.read_unread]
    rw [View.ld_unit_zero zero₂]
    exact congrArg kronOf1 (View.ld_unit_zero zero₂ inb_S256x256_S256x256_0_0 (pad1 x1))
  have hs : ∀ t : Fin 8, arg10.view.readCov (runA.sl.HS1_128 c arg1 harg1 arg3 harg3 x0 x2)
      (Rect.unit (s := S8x256x256) ![t.val, 0, 0] S1x256x256.size (sSlab_inb t)).toLoadRect = sSlab (sAll x0 x2) t := fun t => by
    rw [runA_sList, harg1.read_unread, harg3.read_unread, View.ld_unit_zero zero₂]
    exact congrArg (fun s => sSlab s t) (read_sList arg10.view arg10.view.junk x0 x2)
  rw [runA_zList, hk, funext hs, read_zList]; rfl

/-- The transformed input the first step leaves. -/
theorem runA_z (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x512 .i8) (harg4 : arg4.IsWhole) (arg5 : Memref sig .tc .vmem S32x512 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S128x4096 .bf16) (harg9 : arg9.IsWhole) (arg10 : Memref sig .tc .vmem S8x256x256 .bf16) (harg10 : arg10.IsWhole) (arg11 : Memref sig .tc .vmem S16x224x512 .f32) (harg11 : arg11.IsWhole) (arg12 : Memref sig .tc .vmem S256x256 .f32) (harg12 : arg12.IsWhole) (f : arg9.view.ty.Contents (Elt F)) (hc0 : cond0_0 i) (hc1 : ¬cond0_1 i) (x0 : Vec F S128x4096 .bf16) (x1 : Vec F S16x16 .bf16) (x2 : Vec F S256x256 .bf16) (x3 : Vec F S1024x512 .i8) (x4 : Vec F S32x512 .f32) (x5 : Vec F S28x28 .bf16) (x6 : Vec F S512x512 .bf16) (xs2 : Vec F S16x224x512 .f32) :
    arg9.view.read (Elt F) (arg9.view.writes (Elt F) f (runA c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs2).1) = zAll x0 x1 x2 := by
  rw [runA_fst]; exact read_runA_z arg9.view f ..

/-- The collected products after the first step. -/
theorem runA_r (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x512 .i8) (harg4 : arg4.IsWhole) (arg5 : Memref sig .tc .vmem S32x512 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S128x4096 .bf16) (harg9 : arg9.IsWhole) (arg10 : Memref sig .tc .vmem S8x256x256 .bf16) (harg10 : arg10.IsWhole) (arg11 : Memref sig .tc .vmem S16x224x512 .f32) (harg11 : arg11.IsWhole) (arg12 : Memref sig .tc .vmem S256x256 .f32) (harg12 : arg12.IsWhole) (hc0 : cond0_0 i) (hc1 : ¬cond0_1 i) (x0 : Vec F S128x4096 .bf16) (x1 : Vec F S16x16 .bf16) (x2 : Vec F S256x256 .bf16) (x3 : Vec F S1024x512 .i8) (x4 : Vec F S32x512 .f32) (x5 : Vec F S28x28 .bf16) (x6 : Vec F S512x512 .bf16) (xs2 : Vec F S16x224x512 .f32) :
    arg11.view.read (Elt F) (arg11.view.writes (Elt F) (harg11.unread xs2) (runA c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs2).2.val)
      = rUpd i (rBlk (zAll x0 x1 x2) x3 x4 x6) xs2 := by
  rw [runA_rList, read_rList, harg11.read_unread, harg4.read_unread, harg5.read_unread, harg7.read_unread,
    View.ld_unit_zero zero₂, View.ld_unit_zero zero₂, View.ld_unit_zero zero₂]
  congr 2
  exact (View.ld_unit_zero zero₂ inb_S128x4096_S128x4096_0_0 _).trans (read_runA_z arg9.view arg9.view.junk ..)

/-- The collected products after a middle step. -/
theorem runB_r (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x512 .i8) (harg4 : arg4.IsWhole) (arg5 : Memref sig .tc .vmem S32x512 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S128x4096 .bf16) (harg9 : arg9.IsWhole) (arg10 : Memref sig .tc .vmem S8x256x256 .bf16) (harg10 : arg10.IsWhole) (arg11 : Memref sig .tc .vmem S16x224x512 .f32) (harg11 : arg11.IsWhole) (arg12 : Memref sig .tc .vmem S256x256 .f32) (harg12 : arg12.IsWhole) (hc0 : ¬cond0_0 i) (hc1 : ¬cond0_1 i) (x0 : Vec F S128x4096 .bf16) (x1 : Vec F S16x16 .bf16) (x2 : Vec F S256x256 .bf16) (x3 : Vec F S1024x512 .i8) (x4 : Vec F S32x512 .f32) (x5 : Vec F S28x28 .bf16) (x6 : Vec F S512x512 .bf16) (xs0 : Vec F S128x4096 .bf16) (xs2 : Vec F S16x224x512 .f32) :
    arg11.view.read (Elt F) (arg11.view.writes (Elt F) (harg11.unread xs2) (runB c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs2).val)
      = rUpd i (rBlk xs0 x3 x4 x6) xs2 := by
  rw [runB_rList, read_rList, harg11.read_unread, harg4.read_unread, harg5.read_unread, harg7.read_unread, harg9.read_unread,
    View.ld_unit_zero zero₂, View.ld_unit_zero zero₂, View.ld_unit_zero zero₂, View.ld_unit_zero zero₂]

/-- The collected products after the last step. -/
theorem runC_r (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x512 .i8) (harg4 : arg4.IsWhole) (arg5 : Memref sig .tc .vmem S32x512 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S128x4096 .bf16) (harg9 : arg9.IsWhole) (arg10 : Memref sig .tc .vmem S8x256x256 .bf16) (harg10 : arg10.IsWhole) (arg11 : Memref sig .tc .vmem S16x224x512 .f32) (harg11 : arg11.IsWhole) (arg12 : Memref sig .tc .vmem S256x256 .f32) (harg12 : arg12.IsWhole) (hc0 : ¬cond0_0 i) (hc1 : cond0_1 i) (x0 : Vec F S128x4096 .bf16) (x1 : Vec F S16x16 .bf16) (x2 : Vec F S256x256 .bf16) (x3 : Vec F S1024x512 .i8) (x4 : Vec F S32x512 .f32) (x5 : Vec F S28x28 .bf16) (x6 : Vec F S512x512 .bf16) (xs0 : Vec F S128x4096 .bf16) (xs2 : Vec F S16x224x512 .f32) :
    arg11.view.read (Elt F) (arg11.view.writes (Elt F) (harg11.unread xs2) (runC c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs2).2.val)
      = rUpd i (rBlk xs0 x3 x4 x6) xs2 := by
  rw [runC_rList, read_rList, harg11.read_unread, harg4.read_unread, harg5.read_unread, harg7.read_unread, harg9.read_unread,
    View.ld_unit_zero zero₂, View.ld_unit_zero zero₂, View.ld_unit_zero zero₂, View.ld_unit_zero zero₂]

/-- The output the last step leaves. -/
theorem runC_y (c : Dev nD) (i : grid0.Coords) (arg1 : Memref sig .tc .vmem S128x4096 .bf16) (harg1 : arg1.IsWhole) (arg2 : Memref sig .tc .vmem S16x16 .bf16) (harg2 : arg2.IsWhole) (arg3 : Memref sig .tc .vmem S256x256 .bf16) (harg3 : arg3.IsWhole) (arg4 : Memref sig .tc .vmem S1024x512 .i8) (harg4 : arg4.IsWhole) (arg5 : Memref sig .tc .vmem S32x512 .f32) (harg5 : arg5.IsWhole) (arg6 : Memref sig .tc .vmem S28x28 .bf16) (harg6 : arg6.IsWhole) (arg7 : Memref sig .tc .vmem S512x512 .bf16) (harg7 : arg7.IsWhole) (arg8 : Memref sig .tc .vmem S128x14336 .bf16) (harg8 : arg8.IsWhole) (arg9 : Memref sig .tc .vmem S128x4096 .bf16) (harg9 : arg9.IsWhole) (arg10 : Memref sig .tc .vmem S8x256x256 .bf16) (harg10 : arg10.IsWhole) (arg11 : Memref sig .tc .vmem S16x224x512 .f32) (harg11 : arg11.IsWhole) (arg12 : Memref sig .tc .vmem S256x256 .f32) (harg12 : arg12.IsWhole) (f : arg8.view.ty.Contents (Elt F)) (hc0 : ¬cond0_0 i) (hc1 : cond0_1 i) (x0 : Vec F S128x4096 .bf16) (x1 : Vec F S16x16 .bf16) (x2 : Vec F S256x256 .bf16) (x3 : Vec F S1024x512 .i8) (x4 : Vec F S32x512 .f32) (x5 : Vec F S28x28 .bf16) (x6 : Vec F S512x512 .bf16) (xs0 : Vec F S128x4096 .bf16) (xs2 : Vec F S16x224x512 .f32) :
    arg8.view.read (Elt F) (arg8.view.writes (Elt F) f (runC c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs2).1)
      = yAll x5 (rUpd i (rBlk xs0 x3 x4 x6) xs2) := by
  have hk : runC.sl.r_91 c arg6 harg6 arg12 x5 = kronOf2 (pad2 x5) := by
    rw [runC_kron, View.readCov_eq_canon', runC_padList, canon_padList2, harg6.read_unread]
    rw [View.ld_unit_zero zero₂]
    exact congrArg kronOf2 (View.ld_unit_zero zero₂ inb_S256x256_S256x256_0_0 (pad2 x5))
  rw [runC_yList, runC_r, hk, read_yList]

end Cert.KernelIdeal.Hand

end
-- ==== Proof.IdealSteps.lean ====
/- The kernel over the idealized floats, run whole: the invariant its scratch buffers satisfy between grid points, the body's
   obligation at every point, the launch, and what the result array holds at the end.

   After step `n` the scratch `arg9` holds the transformed input and the scratch `arg11` holds the products of the steps so far,
   eight rows of each slab per step, over whatever it held before the first step. The last step reads them all and stores the
   output, which is written back once. -/
module

public import proofs.«01_k».proof.Proof.Steps
public import Idealize.ShloMosaic.Lib.Pipeline.Value
public import Idealize.ShloMosaic.Lib.Pipeline.TableIdle
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks that are whole arrays -/

/-- Window 0's block is its whole array at every point. -/
theorem iblk_0 (c : Dev nD) (t : Fin cfg0.N) : iblk m c 0 t = (V m c (Pipeline.arrRef spec0 0) : Vec F S128x4096 .bf16) := by
  have hz : (fun a => win0_0.index t a * main_v0.ty.shape.size a) = fun _ => 0 :=
    funext fun a => by fin_cases a <;> exact Nat.zero_mul _
  exact Memref.read_access_unit_zero (Elt F) main_v0 hz (fun a => by rw [congrFun hz a]; simp) _
/-- Window 1's block is its whole array at every point. -/
theorem iblk_1 (c : Dev nD) (t : Fin cfg0.N) : iblk m c 1 t = (V m c (Pipeline.arrRef spec0 1) : Vec F S16x16 .bf16) := by
  have hz : (fun a => win0_1.index t a * main_arg1.ty.shape.size a) = fun _ => 0 :=
    funext fun a => by fin_cases a <;> exact Nat.zero_mul _
  exact Memref.read_access_unit_zero (Elt F) main_arg1 hz (fun a => by rw [congrFun hz a]; simp) _
/-- Window 2's block is its whole array at every point. -/
theorem iblk_2 (c : Dev nD) (t : Fin cfg0.N) : iblk m c 2 t = (V m c (Pipeline.arrRef spec0 2) : Vec F S256x256 .bf16) := by
  have hz : (fun a => win0_2.index t a * main_arg2.ty.shape.size a) = fun _ => 0 :=
    funext fun a => by fin_cases a <;> exact Nat.zero_mul _
  exact Memref.read_access_unit_zero (Elt F) main_arg2 hz (fun a => by rw [congrFun hz a]; simp) _
/-- Window 5's block is its whole array at every point. -/
theorem iblk_5 (c : Dev nD) (t : Fin cfg0.N) : iblk m c 5 t = (V m c (Pipeline.arrRef spec0 5) : Vec F S28x28 .bf16) := by
  have hz : (fun a => win0_5.index t a * main_arg5.ty.shape.size a) = fun _ => 0 :=
    funext fun a => by fin_cases a <;> exact Nat.zero_mul _
  exact Memref.read_access_unit_zero (Elt F) main_arg5 hz (fun a => by rw [congrFun hz a]; simp) _
/-- Window 6's block is its whole array at every point. -/
theorem iblk_6 (c : Dev nD) (t : Fin cfg0.N) : iblk m c 6 t = (V m c (Pipeline.arrRef spec0 6) : Vec F S512x512 .bf16) := by
  have hz : (fun a => win0_6.index t a * main_arg6.ty.shape.size a) = fun _ => 0 :=
    funext fun a => by fin_cases a <;> exact Nat.zero_mul _
  exact Memref.read_access_unit_zero (Elt F) main_arg6 hz (fun a => by rw [congrFun hz a]; simp) _

/-! ## What the scratch buffers and the output hold -/

/-- The transformed input. -/
def zFun (c : Dev nD) : Vec F S128x4096 .bf16 :=
  zAll (V m c (Pipeline.arrRef spec0 0)) (V m c (Pipeline.arrRef spec0 1)) (V m c (Pipeline.arrRef spec0 2))
/-- The product of step `t`. -/
def rStep (c : Dev nD) (t : Fin cfg0.N) : FVec F S128x512 .f32 :=
  rBlk (zFun m c) (iblk m c 3 t) (iblk m c 4 t) (V m c (Pipeline.arrRef spec0 6))
/-- The step whose product holds row `y` of a slab. -/
def stepOf (y : S16x224x512.Idx) : Fin cfg0.N :=
  ⟨(y 1).val / 8, by have h : (y 1).val < 224 := (y 1).isLt; have : cfg0.N = 28 := N_0; omega⟩
/-- The collected products: row `8 n + b` of slab `a` is row `8 a + b` of step `n`'s product. -/
def rFun (c : Dev nD) : Vec F S16x224x512 .f32 := fun y =>
  rPiece (rStep m c (stepOf y)) ⟨(y 0).val, (y 0).isLt⟩ (ix3 0 ⟨(y 1).val % 8, Nat.mod_lt _ (by decide)⟩ ⟨(y 2).val, (y 2).isLt⟩)
/-- The products collected before step `n`, over what the buffer held before the first step. -/
def rUpto (c : Dev nD) (n : ℕ) (d : Vec F S16x224x512 .f32) : Vec F S16x224x512 .f32 := fun y =>
  if (y 1).val / 8 < n then rFun m c y else d y
/-- The output. -/
def yFun (c : Dev nD) : Vec F S128x14336 .bf16 := yAll (V m c (Pipeline.arrRef spec0 5)) (rFun m c)

theorem rUpto_zero (c : Dev nD) (d : Vec F S16x224x512 .f32) : rUpto m c 0 d = d :=
  funext fun y => if_neg (Nat.not_lt_zero _)

theorem coords_zero (t : Fin cfg0.N) : (grid0.coords t 0).val = t.val := by
  have ht : t.val < 28 := Nat.lt_of_lt_of_eq t.isLt N_0
  have e0 : (grid0.coords t 0).val = t.val / 1 % 28 := Pipeline.Grid.coords_val t 0 (by decide) rfl
  omega

/-- A step's store extends the collected products by that step. -/
theorem rUpd_rUpto (c : Dev nD) (t : Fin cfg0.N) (d : Vec F S16x224x512 .f32) :
    rUpd (grid0.coords t) (rStep m c t) (rUpto m c t.val d) = rUpto m c (t.val + 1) d := by
  funext y
  unfold rUpd rUpto
  rw [coords_zero]
  by_cases h : (y 1).val / 8 = t.val
  · rw [if_pos h, if_pos (by omega)]
    unfold rFun
    rw [show stepOf y = t from Fin.ext h]
  · rw [if_neg h]
    by_cases h' : (y 1).val / 8 < t.val
    · rw [if_pos h', if_pos (by omega)]
    · rw [if_neg h', if_neg (by omega)]

/-- After the last step nothing is left of what the buffer held before the first. -/
theorem rUpto_last (c : Dev nD) (t : Fin cfg0.N) (h : t.val = 27) (d : Vec F S16x224x512 .f32) :
    rUpto m c (t.val + 1) d = rFun m c :=
  funext fun y => if_pos (by have : (y 1).val < 224 := (y 1).isLt; omega)

/-! ## The invariant and the proof data -/

/-- Before step `n`: at first the launch's resource; afterwards the transformed input in `arg9`, the products of the steps
    so far in `arg11`, the other two scratch buffers at anything and the generator's register at some state. -/
def PhiS (c : Dev nD) : (n : ℕ) → sProp 𝕄
  | 0 => Pipeline.ΦA spec0 c
  | n + 1 => iprop(iprop(owns (c : Thread nD τ) scM0_0 fullShare (zFun m c) ∗ (∃ d, owns (c : Thread nD τ) scM0_1 fullShare d) ∗ (∃ d, owns (c : Thread nD τ) scM0_2 fullShare (rUpto m c (n + 1) d)) ∗ (∃ d, owns (c : Thread nD τ) scM0_3 fullShare d)) ∗ (∃ r, prngReg c r))

theorem PhiS_pos (c : Dev nD) (n : ℕ) (hz : n ≠ 0) :
    PhiS m c n = iprop(iprop(owns (c : Thread nD τ) scM0_0 fullShare (zFun m c) ∗ (∃ d, owns (c : Thread nD τ) scM0_1 fullShare d) ∗ (∃ d, owns (c : Thread nD τ) scM0_2 fullShare (rUpto m c n d)) ∗ (∃ d, owns (c : Thread nD τ) scM0_3 fullShare d)) ∗ (∃ r, prngReg c r)) := by
  cases n with
  | zero => exact absurd rfl hz
  | succ n => rfl

/-- The proof data: the arrays as the region finds them; each input's buffer keeps its block; the output's buffer is left at
    the output; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yFun m c
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = yFun m c := by dsimp only [dats]

/-! What the body finds in each input's buffer, and must leave there: the block. -/

theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) :
    (dats m 0 c).leavesExact 5 t = owns (c : Thread nD τ) (ms0_5 t) fullShare (iblk m c 5 t) := by
  unfold Dat.leavesExact; rw [liveAt0_5 t, after0_5]
theorem before0_6 (c : Dev nD) (t : Fin cfg0.N) (d) : (dats m 0 c).before 6 t d = iblk m c 6 t :=
  before0_6_of m (dats m 0 c) (A_eq m c 6) (after0_6 m c) t d
theorem leaves0_6 (c : Dev nD) (t : Fin cfg0.N) :
    (dats m 0 c).leavesExact 6 t = owns (c : Thread nD τ) (ms0_6 t) fullShare (iblk m c 6 t) := by
  unfold Dat.leavesExact; rw [liveAt0_6 t, after0_6]

/-- The output's window is idle at every point but the last, -/
theorem idle0_7 (t : Fin cfg0.N) (h : ¬t.val % 28 = 27) : cfg0.idle 7 (grid0.coords t) = true := by
  show (!(k0_cond2 (grid0.coords t) == 1#1)) = true
  rw [beq_false_of_ne (fun e => h ((hcond0_1 t).mp e))]; rfl
/-- where it is not. -/
theorem live0_7 (t : Fin cfg0.N) (h : t.val % 28 = 27) : cfg0.idle 7 (grid0.coords t) = false := by
  show (!(k0_cond2 (grid0.coords t) == 1#1)) = false
  rw [show k0_cond2 (grid0.coords t) = 1#1 from (hcond0_1 t).mpr h]; rfl
/-- It is not written back before the last point. -/
theorem noflush0_7 (t : Fin cfg0.N) (h : ¬t.val % 28 = 27) : (cfg0.win 7).flush t = false :=
  Bool.eq_false_iff.mpr fun e => h ((flush0_7 t).mp e)

/-- The output's buffer holds anything at every point the body is called at. -/
theorem before0_7 (c : Dev nD) (t : Fin cfg0.N) (d) : (dats m 0 c).before 7 t d = d := by
  have hN : t.val < 28 := lt_of_lt_of_eq t.isLt (show cfg0.N = 28 from N_0)
  rw [(dats m 0 c).before_idle_run 7 (fun t => (cfg0.win 7).fetch_out rfl t) d t.val t le_rfl fun j _ hj =>
    ⟨idle0_7 j (by omega), noflush0_7 j (by omega)⟩]
  exact (dats m 0 c).before_out_reset 7 rfl _ (.inl (Nat.sub_self _)) d

/-- So at an idle point the body may leave anything there, -/
theorem leaves0_7_idle (c : Dev nD) (t : Fin cfg0.N) (h : ¬t.val % 28 = 27) :
    (dats m 0 c).leavesExact 7 t = iprop(∃ d, owns (c : Thread nD τ) (ms0_7 t) fullShare d) := by
  rw [(dats m 0 c).leavesExact_idle 7 t (idle0_7 t h) (noflush0_7 t h)]
  simp only [before0_7]; rfl
/-- and at the last point it must leave the output. -/
theorem leaves0_7_live (c : Dev nD) (t : Fin cfg0.N) (h : t.val % 28 = 27) :
    (dats m 0 c).leavesExact 7 t = owns (c : Thread nD τ) (ms0_7 t) fullShare (yFun m c) := by
  unfold Dat.leavesExact; rw [live0_7 t h, after0_7]

/-! ## The steps at the grid's points -/

/-- The first step's transformed input. -/
theorem stepA_z (c : Dev nD) (t : Fin cfg0.N) (f : scM0_0.view.ty.Contents (Elt F)) (hc0 : cond0_0 (grid0.coords t)) (hc1 : ¬cond0_1 (grid0.coords t)) (d : Vec F S16x224x512 .f32) :
    scM0_0.view.read (Elt F) (scM0_0.view.writes (Elt F) f (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) (iblk m c 5 t) (iblk m c 6 t) d).1) = zFun m c := by
  rw [runA_z, iblk_0, iblk_1, iblk_2]; rfl
/-- The first step's product. -/
theorem stepA_r (c : Dev nD) (t : Fin cfg0.N) (hz : t.val = 0) (hc0 : cond0_0 (grid0.coords t)) (hc1 : ¬cond0_1 (grid0.coords t)) (d : Vec F S16x224x512 .f32) :
    scM0_2.view.read (Elt F) (scM0_2.view.writes (Elt F) ((Memref.isWhole_whole cc0_scratch2).unread d) (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) (iblk m c 5 t) (iblk m c 6 t) d).2.val) = rUpto m c (0 + 1) d := by
  rw [runA_r, iblk_0, iblk_1, iblk_2, iblk_6, ← hz, ← rUpd_rUpto, hz, rUpto_zero]; rfl
/-- A middle step's product. -/
theorem stepB_r (c : Dev nD) (t : Fin cfg0.N) (hc0 : ¬cond0_0 (grid0.coords t)) (hc1 : ¬cond0_1 (grid0.coords t)) (d : Vec F S16x224x512 .f32) :
    scM0_2.view.read (Elt F) (scM0_2.view.writes (Elt F) ((Memref.isWhole_whole cc0_scratch2).unread (rUpto m c t.val d)) (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) (iblk m c 5 t) (iblk m c 6 t) (zFun m c) (rUpto m c t.val d)).val) = rUpto m c (t.val + 1) d := by
  rw [runB_r, iblk_6, ← rUpd_rUpto]; rfl
/-- The last step's product. -/
theorem stepC_r (c : Dev nD) (t : Fin cfg0.N) (hc0 : ¬cond0_0 (grid0.coords t)) (hc1 : cond0_1 (grid0.coords t)) (d : Vec F S16x224x512 .f32) :
    scM0_2.view.read (Elt F) (scM0_2.view.writes (Elt F) ((Memref.isWhole_whole cc0_scratch2).unread (rUpto m c t.val d)) (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) (iblk m c 5 t) (iblk m c 6 t) (zFun m c) (rUpto m c t.val d)).2.val) = rUpto m c (t.val + 1) d := by
  rw [runC_r, iblk_6, ← rUpd_rUpto]; rfl
/-- The output the last step stores. -/
theorem stepC_y (c : Dev nD) (t : Fin cfg0.N) (h : t.val % 28 = 27) (f : (ms0_7 t).view.ty.Contents (Elt F)) (hc0 : ¬cond0_0 (grid0.coords t)) (hc1 : cond0_1 (grid0.coords t)) (d : Vec F S16x224x512 .f32) :
    (ms0_7 t).view.read (Elt F) ((ms0_7 t).view.writes (Elt F) f (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) (iblk m c 5 t) (iblk m c 6 t) (zFun m c) (rUpto m c t.val d)).1) = yFun m c := by
  have hN : t.val < 28 := lt_of_lt_of_eq t.isLt (show cfg0.N = 28 from N_0)
  rw [runC_y, iblk_5, iblk_6, show rBlk (zFun m c) (iblk m c 3 t) (iblk m c 4 t) (V m c (Pipeline.arrRef spec0 6)) = rStep m c t from rfl,
    rUpd_rUpto, rUpto_last m c t (by omega)]; rfl

end Cert.KernelIdeal.Hand

end
-- ==== Proof.IdealFrame.lean ====
/- The body's obligation at every grid point, and the launch: every execution of the kernel over the idealized floats ends, with the
   output array at the last step's output. -/
module

public import proofs.«01_k».proof.Proof.IdealSteps
public import Idealize.ShloMosaic.Lib.Pipeline.Value
public import Idealize.ShloMosaic.Lib.Pipeline.TableIdle
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The body's obligation at point `t` when the invariant before it is `P` and the output's buffer must be left at `Q`, every
    window's resource spelled out. -/
def bodyAt (c : Dev nD) (t : Fin cfg0.N) (P Q : sProp 𝕄) : Prop :=
  iprop(P ∗ (dats m 0 c).owesAt () t.castSucc
    ∗ (∃ d : (cfg0.win 0).block.Idx → Elt F (cfg0.win 0).elt, owns (c : Thread nD τ) (ms0_0 t) fullShare (iblk m c 0 t))
    ∗ (∃ d : (cfg0.win 1).block.Idx → Elt F (cfg0.win 1).elt, owns (c : Thread nD τ) (ms0_1 t) fullShare (iblk m c 1 t))
    ∗ (∃ d : (cfg0.win 2).block.Idx → Elt F (cfg0.win 2).elt, owns (c : Thread nD τ) (ms0_2 t) fullShare (iblk m c 2 t))
    ∗ (∃ d : (cfg0.win 3).block.Idx → Elt F (cfg0.win 3).elt, owns (c : Thread nD τ) (ms0_3 t) fullShare (iblk m c 3 t))
    ∗ (∃ d : (cfg0.win 4).block.Idx → Elt F (cfg0.win 4).elt, owns (c : Thread nD τ) (ms0_4 t) fullShare (iblk m c 4 t))
    ∗ (∃ d : (cfg0.win 5).block.Idx → Elt F (cfg0.win 5).elt, owns (c : Thread nD τ) (ms0_5 t) fullShare (iblk m c 5 t))
    ∗ (∃ d : (cfg0.win 6).block.Idx → Elt F (cfg0.win 6).elt, owns (c : Thread nD τ) (ms0_6 t) fullShare (iblk m c 6 t))
    ∗ (∃ d : Vec F S128x14336 .bf16, owns (c : Thread nD τ) (ms0_7 t) fullShare d))
  ⊢ wp frame (wpE (defs₀ (F := F)) Variants.none c none) Set.univ (bodyAt0 t) (fun _ =>
    iprop(PhiS m c (t.val + 1) ∗ (dats m 0 c).owesAt () t.castSucc
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare (iblk m c 5 t)
      ∗ owns (c : Thread nD τ) (ms0_6 t) fullShare (iblk m c 6 t)
      ∗ Q))

set_option maxHeartbeats 1000000 in
/-- The body at the first point. -/
theorem sound_first (c : Dev nD) (t : Fin cfg0.N) (hz : t.val = 0) (h0 : t.val % 28 = 0) (h1 : ¬t.val % 28 = 27) :
    bodyAt m c t (Pipeline.ΦA spec0 c) iprop(∃ d : Vec F S128x14336 .bf16, owns (c : Thread nD τ) (ms0_7 t) fullShare d) := by
  unfold bodyAt bodyAt0
  rw [hz, PhiS_pos m c _ (Nat.succ_ne_zero _), PhiA0_eq]
  iintro ⟨⟨⟨⟨%ds0, HS0⟩, HS1, ⟨%ds2, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) ds2).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexists _; iexact HS0
  isplitl [HS1]; · iexact HS1
  isplitl [HS2]; · iexact HS2
  isplitl [HS3]; · iexact HS3
  iintro ⟨H0, H1, H2, H3, H4, H5, H6, H7, ⟨%e9, HS0⟩, HS1, HS2, HS3⟩
  isplitl [HS0 HS1 HS2 HS3 Hg]
  · isplitl [HS0 HS1 HS2 HS3]
    · isplitl [HS0]
      · unfold owns; iexists _; isplitr
        swap; · iexact HS0
        ipureintro; exact stepA_z m c t e9 _ _ _
      isplitl [HS1]; · iexact HS1
      isplitl [HS2]
      · iexists ds2; iapply (Entails.of_eq (congrArg (owns (c : Thread nD τ) scM0_2 fullShare) (stepA_r m c t hz ((hcond0_0 t).mpr h0) (fun h => h1 ((hcond0_1 t).mp h)) ds2))); iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1000000 in
/-- The body at a middle point. -/
theorem sound_middle (c : Dev nD) (t : Fin cfg0.N) (hz : t.val ≠ 0) (h0 : ¬t.val % 28 = 0) (h1 : ¬t.val % 28 = 27) :
    bodyAt m c t (PhiS m c t.val) iprop(∃ d : Vec F S128x14336 .bf16, owns (c : Thread nD τ) (ms0_7 t) fullShare d) := by
  unfold bodyAt bodyAt0
  rw [PhiS_pos m c _ (Nat.succ_ne_zero _), PhiS_pos m c _ hz]
  iintro ⟨⟨⟨HS0, HS1, ⟨%ds2, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (zFun m c) (rUpto m c t.val ds2)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HS0 HS1 HS2 HS3 Hg]
  · isplitl [HS0 HS1 HS2 HS3]
    · isplitl [HS0]
      · iexact HS0
      isplitl [HS1]; · iexact HS1
      isplitl [HS2]
      · iexists ds2; iapply (Entails.of_eq (congrArg (owns (c : Thread nD τ) scM0_2 fullShare) (stepB_r m c t (fun h => h0 ((hcond0_0 t).mp h)) (fun h => h1 ((hcond0_1 t).mp h)) ds2))); iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1000000 in
/-- The body at the last point. -/
theorem sound_last (c : Dev nD) (t : Fin cfg0.N) (hz : t.val ≠ 0) (h0 : ¬t.val % 28 = 0) (h1 : t.val % 28 = 27) :
    bodyAt m c t (PhiS m c t.val) (owns (c : Thread nD τ) (ms0_7 t) fullShare (yFun m c)) := by
  unfold bodyAt bodyAt0
  rw [PhiS_pos m c _ (Nat.succ_ne_zero _), PhiS_pos m c _ hz]
  iintro ⟨⟨⟨HS0, HS1, ⟨%ds2, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runC c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (zFun m c) (rUpto m c t.val ds2)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, H5, H6, ⟨%e7, H7⟩, HS0, HS1, HS2, HS3⟩
  isplitl [HS0 HS1 HS2 HS3 Hg]
  · isplitl [HS0 HS1 HS2 HS3]
    · isplitl [HS0]
      · iexact HS0
      isplitl [HS1]; · iexact HS1
      isplitl [HS2]
      · iexists ds2; iapply (Entails.of_eq (congrArg (owns (c : Thread nD τ) scM0_2 fullShare) (stepC_r m c t (fun h => h0 ((hcond0_0 t).mp h)) ((hcond0_1 t).mpr h1) ds2))); iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact stepC_y m c t h1 e7 _ _ ds2

/-- The body at any point: the run of its case applies, and what it leaves is the invariant at the next point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7,
    leaves0_0, leaves0_1, leaves0_2, leaves0_3, leaves0_4, leaves0_5, leaves0_6]
  rw [show (dats m 0 c).owesAt () t.succ = (dats m 0 c).owesAt () t.castSucc from rfl]
  rw [show (dats m 0 c).Φ t.succ = PhiS m c (t.val + 1) from rfl]
  rw [show (dats m 0 c).Φ t.castSucc = PhiS m c t.val from rfl]
  have hN : t.val < 28 := lt_of_lt_of_eq t.isLt (show cfg0.N = 28 from N_0)
  by_cases hz : t.val = 0
  · have h1 : ¬t.val % 28 = 27 := by omega
    have h := sound_first m c t hz (by omega) h1
    rw [leaves0_7_idle m c t h1]
    rw [show Pipeline.ΦA spec0 c = PhiS m c t.val from by rw [hz]; rfl] at h
    exact h
  · by_cases h1 : t.val % 28 = 27
    · rw [leaves0_7_live m c t h1]
      exact sound_last m c t hz (by omega) h1
    · rw [leaves0_7_idle m c t h1]
      exact sound_middle m c t hz (by omega) h1

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- The invariant after the last point gives the launch's resource back. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 28 := N_0; omega), PhiA0_eq]
  iintro ⟨⟨HS0, HS1, ⟨%d, HS2⟩, HS3⟩, Hg⟩
  isplitl [HS0 HS1 HS2 HS3]
  · isplitl [HS0]
    · iexists _; iexact HS0
    isplitl [HS1]
    · iexact HS1
    isplitl [HS2]
    · iexists _; iexact HS2
    iexact HS3
  iexact Hg

/-! ## The run -/

-- the launch theorem's implicit arguments are found by unifying its conclusion with this one, which takes unfolding plain
-- definitions in a metavariable's type
set_option backward.isDefEq.respectTransparency.types false in
set_option maxHeartbeats 800000 in
/-- Every execution of @main ends with each window's array at its contents after the write-backs, every other buffer at what
    the host operations leave there, and every semaphore counter at zero. -/
theorem run_main_quiescent : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

end Cert.KernelIdeal.Hand

end
-- ==== Proof.IdealRun.lean ====
/- What the kernel over the idealized floats ends with: its result is the output array reshaped, as a function of the argument
   arrays, and the argument arrays are unchanged. -/
module

public import proofs.«01_k».proof.Proof.IdealFrame
public import Idealize.ShloMosaic.Lib.StableHlo.Run

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal.Gen

variable {F : FTy → Type} [FloatOps F]

variable (m : (ℓ : Loc nD τ sig) → Buf (Elt F) ℓ) (ρ : Dev nD → PrngReg)

/-! ## The output array -/

/-- The output window's one block is its whole array, so what the last point writes back is the output. -/
theorem flushed_eq (c : Dev nD) (t : Fin cfg0.N) (_ : (cfg0.win 7).flush t = true) :
    (dats m 0 c).flushed 7 t = ((cfg0.win 7).blk t).view.read (Elt F) (yFun m c) := by
  show (cfg0.win 7).cut (grid0.coords t) ((dats m 0 c).after 7 t) = _
  rw [after0_7]
  have hz : (fun a => win0_7.index t a * main_v1.ty.shape.size a) = fun _ => 0 :=
    funext fun a => by fin_cases a <;> exact Nat.zero_mul _
  exact (Memref.read_access_unit_zero (Elt F) main_v1 hz (fun a => by rw [congrFun hz a]; simp) (yFun m c)).symm

/-- The last grid point. -/
def tLast : Fin cfg0.N := ⟨27, lt_of_lt_of_eq (by decide) (show 28 = cfg0.N from N_0.symm)⟩

/-- The output array ends holding the output. -/
theorem final_y (c : Dev nD) : (dats m 0 c).arrAt 7 cfg0.N = yFun m c :=
  (dats m 0 c).arrAt_eq_of_cover 7 (yFun m c) (flushed_eq m c) fun i =>
    ⟨tLast, (flush0_7 tLast).mpr rfl, by
      show i ∈ ((View.whole main_v1).slice (win0_7.rect tLast)).set
      rw [View.set_slice_whole, Rect.mem_set_unit]
      intro a
      have h0 : (i 0 : Nat) < 128 := (i 0).isLt
      have h1 : (i 1 : Nat) < 14336 := (i 1).isLt
      match a with
      | ⟨0, _⟩ => exact ⟨(Nat.le_of_eq (Nat.zero_mul _)).trans (Nat.zero_le _), by show (i 0 : Nat) < 0 * 128 + 128; omega⟩
      | ⟨1, _⟩ => exact ⟨(Nat.le_of_eq (Nat.zero_mul _)).trans (Nat.zero_le _), by show (i 1 : Nat) < 0 * 14336 + 14336; omega⟩⟩

/-- The result is the output reshaped. -/
theorem tail_result (c : Dev nD) :
    Pipeline.afterTail₀ cfgs (dats m) 0 (V0 m) [hostOps1] c main_v2 = shapeCast S1x128x14336 (yFun m c) shapeCasts_S128x14336_S1x128x14336 := by
  have h := Pipeline.withArrays_arr spec0 launch0.win.arr_inj c (V0 m c) (fun w => (dats m 0 c).arrAt w cfg0.N) 7
  unfold Pipeline.afterTail₀
  simp only [hostOps1, List.flatten_cons, List.flatten_nil, List.append_nil]
  rw [StableHlo.after_cons, StableHlo.after_nil, StableHlo.reshape_result]
  exact congrArg (fun y => shapeCast S1x128x14336 y shapeCasts_S128x14336_S1x128x14336) (h.trans (final_y m c))

/-- The head of the program reshapes the first argument to a matrix. -/
theorem V_main_v0 (c : Dev nD) : V m c main_v0 = shapeCast S128x4096 (m ((c.tc : Thread nD τ).loc main_arg0)) shapeCasts_S1x128x4096_S128x4096 := by
  show StableHlo.after hostOps0 (V0 m c) (Proc.devRef .tc main_v0) = _
  simp only [hostOps0]
  rw [StableHlo.after_cons, StableHlo.after_nil, StableHlo.reshape_result]
  rfl

/-! ## The run -/

/-- The kernel terminates, leaves its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  θ_run_and (frame_of m ρ (dats m) (A_eq m) (run_main m ρ)) ((θ_run defs _ _).mono (fun _ h => h.2) (run_main_quiescent m ρ))

/-- The kernel's result, with the arguments unchanged. -/
theorem run : θ_run defs (onTc (τ := τ) (main (F := F))) ⟨m, fun _ => 0, ρ⟩ (fun r => ∀ c : Dev nD,
      r.2.mem ((c.tc : Thread nD τ).loc main_v2) = shapeCast S1x128x14336 (yFun m c) shapeCasts_S128x14336_S1x128x14336
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono
    (fun _ h c => ⟨((h.1 c).2 main_v2 (Pipeline.mem_restRefs_of main_v2 (by decide) (by decide))).trans (tail_result m c), h.2.1 c⟩)
    (θ_run_and (run_main m ρ) (frame m ρ))

end Cert.KernelIdeal.Hand

end
-- ==== Proof.IdealOneHot.lean ====
/- Facts of the extended reals and of index words that the transform uses: a product with a one-hot row or column picks one
   entry, the quotient and remainder words of a small index are its quotient and remainder, and the plain and transposed
   matrix products are sums. -/
module

public import proofs.«01_k».proof.Proof.Model
public import Idealize.ShloMosaic.Lib.Pointwise
public import Idealize.ShloMosaic.Lib.MatmulPlain

@[expose] public section

set_option maxRecDepth 16384

noncomputable section

namespace Cert.KernelIdeal.Hand

open Idealize.ShloMosaic Idealize.ShloMosaic.TcCoe Idealize.SL.Sem
open Cert.KernelIdeal.Gen

/-! ## Sums with one nonzero coefficient -/

/-- A sum against a row that is one at `k₀` and zero elsewhere is the entry at `k₀`. -/
theorem sum_oneHot_left {n : ℕ} (p : Fin n → Prop) [DecidablePred p] (k₀ : Fin n) (hp : ∀ k, p k ↔ k = k₀) (f : Fin n → EReal) :
    ∑ k, (if p k then (1 : EReal) else 0) * f k = f k₀ := by
  rw [Finset.sum_eq_single k₀]
  · rw [if_pos ((hp k₀).mpr rfl), one_mul]
  · intro k _ hk; rw [if_neg fun h => hk ((hp k).mp h), zero_mul]
  · intro h; exact absurd (Finset.mem_univ _) h

/-- The same with the row on the right. -/
theorem sum_oneHot_right {n : ℕ} (p : Fin n → Prop) [DecidablePred p] (k₀ : Fin n) (hp : ∀ k, p k ↔ k = k₀) (f : Fin n → EReal) :
    ∑ k, f k * (if p k then (1 : EReal) else 0) = f k₀ := by
  rw [← sum_oneHot_left p k₀ hp f]
  exact Finset.sum_congr rfl fun k _ => mul_comm _ _

/-! ## Index words -/

/-- The floor quotient of a word by a divisor, as array programs spell it. -/
def fdivW (x d : BitVec 32) : BitVec 32 :=
  Scalar.select (IntOp.andi (IntOp.cmpi .ne (IntOp.subi ((IntOp.cmpi .sgt x 0#32).setWidth 32) ((IntOp.cmpi .slt x 0#32).setWidth 32))
      (Scalar.subi (Scalar.extui (Scalar.cmpi .sgt d 0#32)) (Scalar.extui (Scalar.cmpi .slt d 0#32))))
      (IntOp.cmpi .ne (IntOp.remsi .vector x d) 0#32))
    (IntOp.subi (IntOp.divsi .vector x d) 1#32) (IntOp.divsi .vector x d)

/-- The floor remainder likewise. -/
def fmodW (x d : BitVec 32) : BitVec 32 :=
  Scalar.select (IntOp.andi (IntOp.xori (IntOp.cmpi .slt (IntOp.remsi .vector x d) 0#32) (Scalar.cmpi .slt d 0#32))
      (IntOp.cmpi .ne (IntOp.remsi .vector x d) 0#32))
    (IntOp.addi (IntOp.remsi .vector x d) d) (IntOp.remsi .vector x d)

theorem fdivW_16 : ∀ c : Fin 256, fdivW (BitVec.ofNat 32 c.val) 16#32 = BitVec.ofNat 32 (c.val / 16) := by decide +kernel
theorem fdivW_8 : ∀ c : Fin 256, fdivW (BitVec.ofNat 32 c.val) 8#32 = BitVec.ofNat 32 (c.val / 8) := by decide +kernel
theorem fmodW_16 : ∀ c : Fin 256, fmodW (BitVec.ofNat 32 c.val) 16#32 = BitVec.ofNat 32 (c.val % 16) := by decide +kernel
theorem fmodW_8 : ∀ c : Fin 256, fmodW (BitVec.ofNat 32 c.val) 8#32 = BitVec.ofNat 32 (c.val % 8) := by decide +kernel

/-- The column of the second factor that column `c` of the permuted one is: in each group of 128 columns, the even columns
    and then the odd ones. -/
def feat (c : Fin 256) : Fin 256 := ⟨c.val / 128 * 128 + c.val % 64 * 2 + c.val % 128 / 64, by omega⟩

/-- The word the kernel computes for that column. -/
def featW (x : BitVec 32) : BitVec 32 :=
  IntOp.addi (IntOp.addi (IntOp.muli (fdivW x 128#32) 128#32) (IntOp.muli (fmodW x 64#32) 2#32)) (fdivW (fmodW x 128#32) 64#32)
theorem featW_eq : ∀ c : Fin 256, featW (BitVec.ofNat 32 c.val) = BitVec.ofNat 32 (feat c).val := by decide +kernel

/-- Two small numbers' words are equal where the numbers are: the choice by their comparison. -/
theorem select_eq_words {α : Type} (a b : ℕ) (ha : a < 256) (hb : b < 256) (x y : α) :
    Scalar.select (IntOp.cmpi .eq (BitVec.ofNat 32 a) (BitVec.ofNat 32 b)) x y = if a = b then x else y := by
  by_cases h : a = b
  · subst h; simp [Scalar.select, IntOp.cmpi]
  · have hne : BitVec.ofNat 32 a ≠ BitVec.ofNat 32 b := fun e => h (by
      have := congrArg BitVec.toNat e
      simp only [BitVec.toNat_ofNat] at this
      omega)
    have hb' : (BitVec.ofNat 32 a == BitVec.ofNat 32 b) = false := beq_eq_false_iff_ne.mpr hne
    simp [Scalar.select, IntOp.cmpi, h, hb']

theorem row_word (r c : Fin 256) : iotaRow (ix2 r c) = BitVec.ofNat 32 r.val := iota_single_apply _ _ _ _ _ _
theorem col_word (r c : Fin 256) : iotaCol (ix2 r c) = BitVec.ofNat 32 c.val := iota_single_apply _ _ _ _ _ _

theorem permMask_words (j : S256x256.Idx) : permMask j = IntOp.cmpi .eq (iotaRow j) (featW (iotaCol j)) := rfl

/-! ## Constants and products -/

theorem f32_zero : FloatOps.ofBits (F := Ideal) .f32 0x00000000#32 = (0 : EReal) := by simp [Ideal.ofBits, Ideal.ieee]
theorem f32_one : FloatOps.ofBits (F := Ideal) .f32 0x3F800000#32 = (1 : EReal) := by
  simp [Ideal.ofBits, Ideal.ieee, -EReal.coe_mul]; norm_num
theorem f32_quarter : FloatOps.ofBits (F := Ideal) .f32 0x3E800000#32 = ((1 / 4 : ℝ) : EReal) := by
  simp [Ideal.ofBits, Ideal.ieee, -EReal.coe_mul]; norm_num

/-- A plain matrix product from a zero accumulator is a sum of products. -/
theorem matmul_plain_zero {M K N : ℕ} {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  refine (Ideal.matmul_plain_apply none lhs rhs _ r c).trans ?_
  show FloatOps.ofBits (F := Ideal) .f32 0x00000000#32 + ∑ k : Fin K, lhs (ix2 r k) * rhs (ix2 k c) = _
  rw [f32_zero, zero_add]

/-- A product with a transposed right operand likewise. -/
theorem matmul_transposed_zero {M K N : ℕ} {φ₁ φ₂ : FTy} (lhs : FVec Ideal ⟨2, ![M, K]⟩ φ₁) (rhs : FVec Ideal ⟨2, ![N, K]⟩ φ₂)
    (r : Fin M) (c : Fin N) :
    FloatOps.matmul (DotDims.transposedRhs M K N) none lhs rhs (constant ⟨2, ![M, N]⟩ .f32 0x00000000#32) (ix2 r c)
      = ∑ k : Fin K, lhs (ix2 r k) * rhs (ix2 c k) := by
  refine (Ideal.matmul_transposedRhs_apply none lhs rhs _ r c).trans ?_
  show FloatOps.ofBits (F := Ideal) .f32 0x00000000#32 + ∑ k : Fin K, lhs (ix2 r k) * rhs (ix2 c k) = _
  rw [f32_zero, zero_add]

end Cert.KernelIdeal.Hand

end
-- ==== Proof.Spec.lean ====
/- The layer in plain sums over the extended reals: the input rotated by the two factors, the decoded weights, the hidden
   product, and the output rotated by its two factors. -/
module

public import Mathlib.Data.EReal.Operations
public import Mathlib.Algebra.BigOperators.Fin
public import Mathlib.Algebra.BigOperators.Ring.Finset

@[expose] public section

noncomputable section

namespace Cert.Spec

/-- Block `c` of a row of the input times the second factor. -/
def inner (x : Fin 128 → Fin 4096 → EReal) (v2 : Fin 256 → Fin 256 → EReal) (i : Fin 128) (c : Fin 16) (b : Fin 256) : EReal :=
  ∑ k : Fin 256, x i ⟨256 * c.val + k.val, by omega⟩ * v2 k b

/-- The rotated input at feature `256 a + b`. -/
def rot (x : Fin 128 → Fin 4096 → EReal) (v1 : Fin 16 → Fin 16 → EReal) (v2 : Fin 256 → Fin 256 → EReal)
    (i : Fin 128) (a : Fin 16) (b : Fin 256) : EReal :=
  ∑ c : Fin 16, v1 c a * inner x v2 i c b

/-- The two-bit code `j` of a byte, the lowest first. -/
def code (w : BitVec 8) (j : Fin 4) : ℕ := w.toNat / 4 ^ j.val % 4

/-- The weight of code `j` of byte row `k` in column `n`: the code less one and a half, times its group's scale. -/
def weight (codes : Fin 1024 → Fin 14336 → BitVec 8) (scale : Fin 32 → Fin 14336 → EReal) (k : Fin 1024) (j : Fin 4)
    (n : Fin 14336) : EReal :=
  (((code (codes k n) j : ℝ) - 3 / 2 : ℝ) : EReal) * scale ⟨k.val / 32, by omega⟩ n

/-- The hidden product: the rotated input at feature `4 k + j` times the weight of code `j` of byte row `k`. -/
def hidden (z : Fin 128 → Fin 16 → Fin 256 → EReal) (w : Fin 1024 → Fin 4 → Fin 14336 → EReal) (i : Fin 128) (n : Fin 14336) : EReal :=
  ∑ k : Fin 1024, ∑ j : Fin 4, z i ⟨k.val / 64, by omega⟩ ⟨(4 * k.val + j.val) % 256, by omega⟩ * w k j n

/-- Block `p` of the hidden product times the transposed last factor. -/
def outer (h : Fin 128 → Fin 14336 → EReal) (u2 : Fin 512 → Fin 512 → EReal) (i : Fin 128) (p : Fin 28) (q : Fin 512) : EReal :=
  ∑ k : Fin 512, h i ⟨512 * p.val + k.val, by omega⟩ * u2 q k

/-- The output at feature `512 a + q`. -/
def out (r : Fin 128 → Fin 28 → Fin 512 → EReal) (u1 : Fin 28 → Fin 28 → EReal) (i : Fin 128) (a : Fin 28) (q : Fin 512) : EReal :=
  ∑ p : Fin 28, u1 a p * r i p q

/-- The whole layer at row `i`, feature `512 a + q`. -/
def layer (x : Fin 128 → Fin 4096 → EReal) (v1 : Fin 16 → Fin 16 → EReal) (v2 : Fin 256 → Fin 256 → EReal)
    (codes : Fin 1024 → Fin 14336 → BitVec 8) (scale : Fin 32 → Fin 14336 → EReal) (u1 : Fin 28 → Fin 28 → EReal)
    (u2 : Fin 512 → Fin 512 → EReal) (i : Fin 128) (a : Fin 28) (q : Fin 512) : EReal :=
  out (outer (hidden (rot x v1 v2) (weight codes scale)) u2) u1 i a q

end Cert.Spec

end
-- ==== Proof.IdealInput.lean ====
/- The transformed input over the extended reals: the permuted second factor, the first Kronecker factor, and the array `z` the
   first step writes, entry by entry. -/
module

public import proofs.«01_k».proof.Proof.IdealOneHot
public import proofs.«01_k».proof.Proof.Spec

@[expose] public section

set_option maxRecDepth 16384

noncomputable section

namespace Cert.KernelIdeal.Hand

open Idealize.ShloMosaic Idealize.ShloMosaic.TcCoe Idealize.SL.Sem
open Cert.KernelIdeal.Gen

/-- One where a choice is taken and zero elsewhere. -/
abbrev oneZero (c : IVec S256x256 1) : FVec Ideal S256x256 .f32 := fun j =>
  Scalar.select (c j) (FloatOps.ofBits (F := Ideal) .f32 0x3F800000#32) (FloatOps.ofBits (F := Ideal) .f32 0x00000000#32)

theorem oneZero_eq (c : IVec S256x256 1) (j : S256x256.Idx) (a b : ℕ) (ha : a < 256) (hb : b < 256)
    (hc : c j = IntOp.cmpi .eq (BitVec.ofNat 32 a) (BitVec.ofNat 32 b)) : oneZero c j = if a = b then (1 : EReal) else 0 := by
  show Scalar.select (c j) _ _ = _
  rw [hc, select_eq_words a b ha hb, f32_one, f32_zero]

/-- The permuted second factor's column `c` is the factor's column `feat c`. -/
theorem v2perm_apply (v2 : Vec Ideal S256x256 .bf16) (r c : Fin 256) : v2perm v2 (ix2 r c) = v2 (ix2 r (feat c)) := by
  refine (matmul_plain_zero (M := 256) (K := 256) (N := 256) (φ₁ := .bf16) (φ₂ := .bf16) v2 (oneZero permMask) r c).trans ?_
  have h (k : Fin 256) : oneZero permMask (ix2 k c) = if k.val = (feat c).val then (1 : EReal) else 0 :=
    oneZero_eq _ _ _ _ k.isLt (feat c).isLt (by rw [permMask_words, row_word, col_word, featW_eq])
  simp only [h]
  exact sum_oneHot_right (fun k : Fin 256 => k.val = (feat c).val) (feat c) (fun k => Fin.ext_iff.symm) fun k => v2 (ix2 r k)

/-! ## The Kronecker factors -/

/-- The choices of the two one-hot arrays that spread a corner over blocks of `d` rows and columns. -/
abbrev spreadRow (d : BitVec 32) : IVec S256x256 1 := fun j => IntOp.cmpi .eq (fdivW (iotaRow j) d) (iotaCol j)
abbrev spreadCol (d : BitVec 32) : IVec S256x256 1 := fun j => IntOp.cmpi .eq (fdivW (iotaCol j) d) (iotaRow j)
/-- An array's corner spread over blocks of `d` rows and columns, by two products with one-hot arrays. -/
def spread (d : BitVec 32) (pad : Vec Ideal S256x256 .f32) : FVec Ideal S256x256 .f32 :=
  FloatOps.matmul (F := Ideal) (φ₁ := .bf16) (φ₂ := .bf16) (DotDims.plain 256 256 256) none
    (FloatOps.matmul (F := Ideal) (φ₁ := .bf16) (φ₂ := .bf16) (DotDims.plain 256 256 256) none (oneZero (spreadRow d)) pad
      (constant ⟨2, ![256, 256]⟩ .f32 0x00000000#32))
    (oneZero (spreadCol d)) (constant ⟨2, ![256, 256]⟩ .f32 0x00000000#32)

/-- The spread array's entry is the corner's at the blocks' numbers. -/
theorem spread_apply (d : BitVec 32) (n : ℕ) (hd : ∀ c : Fin 256, fdivW (BitVec.ofNat 32 c.val) d = BitVec.ofNat 32 (c.val / n))
    (pad : Vec Ideal S256x256 .f32) (r c : Fin 256) :
    spread d pad (ix2 r c) = pad (ix2 ⟨r.val / n, (Nat.div_le_self _ _).trans_lt r.isLt⟩ ⟨c.val / n, (Nat.div_le_self _ _).trans_lt c.isLt⟩) := by
  unfold spread
  rw [matmul_plain_zero (M := 256) (K := 256) (N := 256)]
  have hcol (k : Fin 256) : oneZero (spreadCol d) (ix2 k c) = if c.val / n = k.val then (1 : EReal) else 0 :=
    oneZero_eq _ _ _ _ ((Nat.div_le_self _ _).trans_lt c.isLt) k.isLt (by
      show IntOp.cmpi .eq (fdivW (iotaCol (ix2 k c)) d) (iotaRow (ix2 k c)) = _
      rw [row_word, col_word, hd])
  have hrow (k : Fin 256) : oneZero (spreadRow d) (ix2 r k) = if r.val / n = k.val then (1 : EReal) else 0 :=
    oneZero_eq _ _ _ _ ((Nat.div_le_self _ _).trans_lt r.isLt) k.isLt (by
      show IntOp.cmpi .eq (fdivW (iotaRow (ix2 r k)) d) (iotaCol (ix2 r k)) = _
      rw [row_word, col_word, hd])
  simp only [hcol]
  rw [sum_oneHot_right (fun k : Fin 256 => c.val / n = k.val) ⟨c.val / n, (Nat.div_le_self _ _).trans_lt c.isLt⟩
    (fun k => by rw [Fin.ext_iff]; exact eq_comm)]
  rw [matmul_plain_zero (M := 256) (K := 256) (N := 256)]
  simp only [hrow]
  exact sum_oneHot_left (fun k : Fin 256 => r.val / n = k.val) ⟨r.val / n, (Nat.div_le_self _ _).trans_lt r.isLt⟩
    (fun k => by rw [Fin.ext_iff]; exact eq_comm) _

/-- The Kronecker factor keeps the spread array where row and column agree modulo `d`. -/
theorem kronOf1_eq (pad : Vec Ideal S256x256 .f32) (j : S256x256.Idx) : kronOf1 pad j
    = Scalar.select (IntOp.cmpi .eq (fmodW (iotaRow j) 16#32) (fmodW (iotaCol j) 16#32)) (spread 16#32 pad j)
        (FloatOps.ofBits (F := Ideal) .f32 0x00000000#32) := rfl

/-- The padded first factor's corner is the transposed factor. -/
theorem pad1_apply (v1 : Vec Ideal S16x16 .bf16) (a b : Fin 256) (ha : a.val < 16) (hb : b.val < 16) :
    pad1 v1 (ix2 a b) = v1 (ix2 ⟨b.val, hb⟩ ⟨a.val, ha⟩) := by
  unfold pad1
  rw [dif_pos (show (ix2 a b 0).val < 16 ∧ (ix2 a b 1).val < 16 from ⟨ha, hb⟩)]
  unfold k0_pay9
  dsimp only
  rw [shapeCast_self]
  exact transpose_apply [1, 0] (extf (F := Ideal) (φ := .bf16) .f32 v1 bitsLt_bf16_f32) transposes_S16x16_p1_0_S16x16 (ix2 ⟨a.val, ha⟩ ⟨b.val, hb⟩) (ix2 ⟨b.val, hb⟩ ⟨a.val, ha⟩)
    (fun b => match b with
      | ⟨0, _⟩ => rfl
      | ⟨1, _⟩ => rfl)

/-- The first Kronecker factor: the transposed first factor with the identity of size sixteen. -/
theorem kron1_apply (v1 : Vec Ideal S16x16 .bf16) (r c : Fin 256) :
    kronOf1 (pad1 v1) (ix2 r c) = if r.val % 16 = c.val % 16 then v1 (ix2 ⟨c.val / 16, by omega⟩ ⟨r.val / 16, by omega⟩) else 0 := by
  rw [kronOf1_eq, row_word, col_word, fmodW_16, fmodW_16, select_eq_words _ _ (by omega) (by omega), spread_apply _ 16 fdivW_16,
    pad1_apply v1 _ _ (by show r.val / 16 < 16; omega) (by show c.val / 16 < 16; omega), f32_zero]

/-! ## The transformed input -/

/-- Column block `c` of the input times the permuted second factor. -/
theorem sBlk_apply (x : Vec Ideal S128x4096 .bf16) (v2 : Vec Ideal S256x256 .bf16) (c : Fin 16) (i : Fin 128) (b : Fin 256) :
    sBlk x v2 c (ix2 i b) = Spec.inner (fun i k => x (ix2 i k)) (fun k b => v2 (ix2 k b)) i c (feat b) := by
  unfold sBlk k0_pay16
  dsimp only
  rw [shapeCast_self, View.ld_unit]
  refine (matmul_plain_zero (M := 128) (K := 256) (N := 256) (φ₁ := .bf16) (φ₂ := .bf16) _ (v2perm v2) i b).trans ?_
  refine Finset.sum_congr rfl fun k _ => ?_
  rw [v2perm_apply]
  refine congrArg (· * _) ?_
  exact extractStridedSlice_apply _ x _ _ (ix2 i ⟨256 * c.val + k.val, by omega⟩) (fun a => match a with
    | ⟨0, _⟩ => (Nat.zero_add _).symm
    | ⟨1, _⟩ => rfl)

/-- The first scratch array's row `k` of slab `t`. -/
theorem sAll_apply (x : Vec Ideal S128x4096 .bf16) (v2 : Vec Ideal S256x256 .bf16) (t : Fin 8) (k b : Fin 256) :
    sAll x v2 (ix3 t k b) = Spec.inner (fun i k => x (ix2 i k)) (fun k b => v2 (ix2 k b))
      ⟨16 * t.val + k.val % 16, by omega⟩ ⟨k.val / 16, by omega⟩ (feat b) := by
  show sPiece x v2 ⟨t.val, t.isLt⟩ ⟨k.val / 16, _⟩ (ix3 0 ⟨k.val % 16, _⟩ ⟨b.val, b.isLt⟩) = _
  unfold sPiece
  rw [shapeCast_apply _ _ _ (ix2 ⟨k.val % 16, by omega⟩ b) (by
    rw [Shape.rowMajor_val_two, Shape.rowMajor_val_three]
    show k.val % 16 * 256 + b.val = (0 * 16 + k.val % 16) * 256 + b.val
    omega)]
  rw [extractStridedSlice_apply _ _ _ _ (ix2 ⟨16 * t.val + k.val % 16, by omega⟩ b) (fun a => match a with
    | ⟨0, _⟩ => rfl
    | ⟨1, _⟩ => (Nat.zero_add _).symm)]
  exact sBlk_apply x v2 _ _ b

/-- A sum against a row that is nonzero at every `m`-th place only. -/
theorem sum_stride {n m N : ℕ} (hN : N = n * m) (i : ℕ) (hi : i < m) (g : Fin n → EReal) (h : Fin N → EReal) :
    ∑ k : Fin N, (if i = k.val % m then g ⟨k.val / m, Nat.div_lt_of_lt_mul (by rw [Nat.mul_comm, ← hN]; exact k.isLt)⟩ else 0) * h k
      = ∑ c : Fin n, g c * h ⟨m * c.val + i, by
          rw [hN]; have := Nat.mul_le_mul_left m (Nat.succ_le_of_lt c.isLt); rw [Nat.mul_comm n m]
          exact lt_of_lt_of_le (by rw [Nat.mul_succ]; omega) this⟩ := by
  subst hN
  have hm : 0 < m := Nat.lt_of_le_of_lt (Nat.zero_le _) hi
  rw [← Equiv.sum_comp finProdFinEquiv, Fintype.sum_prod_type]
  refine Finset.sum_congr rfl fun c _ => ?_
  rw [Finset.sum_eq_single ⟨i, hi⟩]
  · have hv : (finProdFinEquiv (c, (⟨i, hi⟩ : Fin m))).val = i + m * c.val := rfl
    have hmod : i = (finProdFinEquiv (c, (⟨i, hi⟩ : Fin m))).val % m := by
      rw [hv, Nat.add_mul_mod_self_left, Nat.mod_eq_of_lt hi]
    rw [if_pos hmod]
    congr 2
    · exact Fin.ext (by show (finProdFinEquiv (c, (⟨i, hi⟩ : Fin m))).val / m = c.val
                        rw [hv, Nat.add_mul_div_left _ _ hm, Nat.div_eq_of_lt hi, Nat.zero_add])
    · exact Fin.ext (by show i + m * c.val = m * c.val + i; omega)
  · intro j _ hj
    have hv : (finProdFinEquiv (c, j)).val = j.val + m * c.val := rfl
    rw [if_neg (fun e => hj (Fin.ext (by
      show j.val = i
      rw [hv, Nat.add_mul_mod_self_left, Nat.mod_eq_of_lt j.isLt] at e
      exact e.symm))), zero_mul]
  · intro h; exact absurd (Finset.mem_univ _) h

/-- The transformed input at row `i`, column `256 a + b`: the rotated input at feature `256 a + feat b`. -/
theorem zAll_apply (x : Vec Ideal S128x4096 .bf16) (v1 : Vec Ideal S16x16 .bf16) (v2 : Vec Ideal S256x256 .bf16) (i : Fin 128)
    (q : Fin 4096) : zAll x v1 v2 (ix2 i q) = Spec.rot (fun i k => x (ix2 i k)) (fun c a => v1 (ix2 c a)) (fun k b => v2 (ix2 k b))
      i ⟨q.val / 256, by omega⟩ (feat ⟨q.val % 256, by omega⟩) := by
  show zPieceOf (kronOf1 (pad1 v1)) (sSlab (sAll x v2) ⟨i.val / 16, _⟩) ⟨q.val / 256, _⟩ (ix2 ⟨i.val % 16, _⟩ ⟨q.val % 256, _⟩) = _
  generalize_proofs
  unfold zPieceOf k0_pay175
  rw [shapeCast_self, extractStridedSlice_apply _ _ _ _
    (ix2 (⟨16 * (q.val / 256) + i.val % 16, by omega⟩ : Fin 256) (⟨q.val % 256, by omega⟩ : Fin 256)) (fun a => match a with
    | ⟨0, _⟩ => rfl
    | ⟨1, _⟩ => (Nat.zero_add _).symm)]
  refine (matmul_plain_zero (M := 256) (K := 256) (N := 256) (φ₁ := .bf16) (φ₂ := .bf16) (kronOf1 (pad1 v1)) _ _ _).trans ?_
  have hs (k : Fin 256) : shapeCast S256x256 (sSlab (sAll x v2) ⟨i.val / 16, by omega⟩) shapeCasts_S1x256x256_S256x256
      (ix2 k ⟨q.val % 256, by omega⟩) = sAll x v2 (ix3 ⟨i.val / 16, by omega⟩ k ⟨q.val % 256, by omega⟩) := by
    rw [shapeCast_apply _ _ _ (ix3 0 k ⟨q.val % 256, by omega⟩) (by
      rw [Shape.rowMajor_val_two, Shape.rowMajor_val_three]
      show (0 * 256 + k.val) * 256 + q.val % 256 = k.val * 256 + q.val % 256
      omega)]
    unfold sSlab
    rw [View.ld_unit]
    exact extractStridedSlice_apply _ _ _ _ _ (fun a => match a with
      | ⟨0, _⟩ => rfl
      | ⟨1, _⟩ => (Nat.zero_add _).symm
      | ⟨2, _⟩ => (Nat.zero_add _).symm)
  simp only [hs, kron1_apply, sAll_apply]
  have e1 : (16 * (q.val / 256) + i.val % 16) % 16 = i.val % 16 := by omega
  have e2 : (16 * (q.val / 256) + i.val % 16) / 16 = q.val / 256 := by omega
  simp only [e1, e2]
  rw [sum_stride (n := 16) (m := 16) (N := 256) rfl (i.val % 16) (by omega) (fun c => v1 (ix2 c ⟨q.val / 256, by omega⟩))
    (fun k => Spec.inner (fun i k => x (ix2 i k)) (fun k b => v2 (ix2 k b)) ⟨16 * (i.val / 16) + k.val % 16, by omega⟩
      ⟨k.val / 16, by omega⟩ (feat ⟨q.val % 256, by omega⟩))]
  refine Finset.sum_congr rfl fun c _ => ?_
  have e3 : (⟨16 * (i.val / 16) + (16 * c.val + i.val % 16) % 16, by omega⟩ : Fin 128) = i := Fin.ext (by
    show 16 * (i.val / 16) + (16 * c.val + i.val % 16) % 16 = i.val; omega)
  have e4 : (⟨(16 * c.val + i.val % 16) / 16, by omega⟩ : Fin 16) = c := Fin.ext (by
    show (16 * c.val + i.val % 16) / 16 = c.val; omega)
  simp only [e3, e4]

end Cert.KernelIdeal.Hand

end
-- ==== Proof.IdealWeight.lean ====
/- The decoded weight block over the extended reals: each four-bit field of the two masked words is four times a code less six,
   and each entry of the block is a code less one and a half, times its group's scale. -/
module

public import proofs.«01_k».proof.Proof.IdealInput
public import Idealize.ShloMosaic.Lib.BitcastFour

@[expose] public section

set_option maxRecDepth 16384

noncomputable section

namespace Cert.KernelIdeal.Hand

open Idealize.ShloMosaic Idealize.ShloMosaic.TcCoe Idealize.SL.Sem
open Cert.KernelIdeal.Gen

/-! ## The codes' bits -/

/-- The four-bit field that stands for code `j` of a byte. -/
def nib (b : BitVec 8) (j : Fin 4) : BitVec 4 := ((b >>> (2 * j.val)).setWidth 4 <<< 2) ^^^ 10#4

/-- As a signed number the field is four times the code less six. -/
theorem nib_toInt : ∀ (b : BitVec 8) (j : Fin 4), (nib b j).toInt = 4 * (Spec.code b j : ℤ) - 6 := by decide +kernel

/-- The bits of the field: the code's high bit inverted, its low bit, one, zero. -/
theorem nib_bit : ∀ (b : BitVec 8) (j : Fin 4) (l : Fin 4),
    (nib b j).getLsbD l.val = ((decide (2 ≤ l.val) && b.getLsbD (2 * j.val + (l.val - 2))) ^^ decide (l.val % 2 = 1)) := by decide +kernel

/-- The mask that keeps the high two bits of every field, and the word that inverts the second and fourth. -/
theorem mask_bit : ∀ q : Fin 32, (3435973836#32).getLsbD q.val = decide (2 ≤ q.val % 4) := by decide
theorem flip_bit : ∀ q : Fin 32, (2863311530#32).getLsbD q.val = decide (q.val % 2 = 1) := by decide

/-- Byte `4 q + p` of column `n` holds bits `8 p` to `8 p + 7` of the word. -/
theorem words_bit (codes : Vec Ideal S1024x512 .i8) (q : Fin 256) (n : Fin 512) (l : ℕ) (hl : l < 32) :
    (words codes (ix2 q n)).getLsbD l = (codes (ix2 ⟨4 * q.val + l / 8, by omega⟩ n)).getLsbD (l % 8) :=
  bitcast_8_32_getLsbD_ix2 (R := 1024) (r := 256) (n := 512) codes bitcasts_S1024x512_w8_S256x512_w32 q n l hl _ rfl

theorem loWord_bit (w : IVec S256x512 32) (j : S256x512.Idx) (l : ℕ) (hl : l < 32) :
    (loWord w j).getLsbD l = ((decide (2 ≤ l % 4) && (w j).getLsbD (l - 2)) ^^ decide (l % 2 = 1)) := by
  show ((((w j) <<< (2 : ℕ)) &&& 3435973836#32) ^^^ 2863311530#32).getLsbD l = _
  rw [BitVec.getLsbD_xor, BitVec.getLsbD_and, BitVec.getLsbD_shiftLeft, mask_bit ⟨l, hl⟩, flip_bit ⟨l, hl⟩]
  by_cases h : 2 ≤ l % 4
  · have h2 : ¬ l < 2 := by omega
    simp [h, h2, hl]
  · simp [h]

theorem hiWord_bit (w : IVec S256x512 32) (j : S256x512.Idx) (l : ℕ) (hl : l < 32) :
    (hiWord w j).getLsbD l = ((decide (2 ≤ l % 4) && (w j).getLsbD l) ^^ decide (l % 2 = 1)) := by
  show (((w j) &&& 3435973836#32) ^^^ 2863311530#32).getLsbD l = _
  rw [BitVec.getLsbD_xor, BitVec.getLsbD_and, mask_bit ⟨l, hl⟩, flip_bit ⟨l, hl⟩, Bool.and_comm]

/-- Field `r % 8` of word row `r / 8`. -/
theorem fields_apply (w : IVec S256x512 32) (r : Fin 2048) (n : Fin 512) :
    fields w (ix2 r n) = (BitVec.sshiftRight (w (ix2 ⟨r.val / 8, by omega⟩ n)) (4 * (r.val % 8))).setWidth 4 := by
  have h8 : r.val % 8 < 8 := Nat.mod_lt _ (by decide)
  show (shapeCast S2048x512 (concatenate S256x8x512 1 (List.ofFn fun i : Fin 8 => ⟨S256x1x512, fieldRow w i⟩) _) _ (ix2 r n)).setWidth 4 = _
  refine congrArg (BitVec.setWidth 4) ?_
  rw [shapeCast_apply _ _ _ (ix3 (⟨r.val / 8, by omega⟩ : Fin 256) (⟨r.val % 8, h8⟩ : Fin 8) n) (by
    rw [Shape.rowMajor_val_two, Shape.rowMajor_val_three]
    show (r.val / 8 * 8 + r.val % 8) * 512 + n.val = r.val * 512 + n.val
    omega)]
  refine (concatenate_ofFn_unit_apply (t := S256x8x512) 1 (fieldRow w) _ rfl rfl _ ⟨r.val % 8, h8⟩ rfl
    (ix3 (⟨r.val / 8, by omega⟩ : Fin 256) 0 n) (fun b hb => match b, hb with
      | ⟨0, _⟩, _ => rfl
      | ⟨1, _⟩, hb => absurd rfl hb
      | ⟨2, _⟩, _ => rfl)).trans ?_
  unfold fieldRow
  rw [shapeCast_apply _ _ _ (ix2 (⟨r.val / 8, by omega⟩ : Fin 256) n) (by
    rw [Shape.rowMajor_val_two, Shape.rowMajor_val_three]
    show r.val / 8 * 512 + n.val = (r.val / 8 * 1 + 0) * 512 + n.val
    omega)]
  generalize hw : w (ix2 ⟨r.val / 8, by omega⟩ n) = v
  show IntOp.shrsi .vector (w (ix2 ⟨r.val / 8, _⟩ n)) (BitVec.ofNat 32 (4 * (r.val % 8))) = _
  rw [hw]
  have key : ∀ i : Fin 8, IntOp.shrsi .vector v (BitVec.ofNat 32 (4 * i.val)) = BitVec.sshiftRight v (4 * i.val) := fun i => by
    fin_cases i <;> rfl
  exact key ⟨r.val % 8, h8⟩

/-- A field row of the low words is the low code's field of each half byte. -/
theorem lo_field (codes : Vec Ideal S1024x512 .i8) (r : Fin 2048) (n : Fin 512) :
    fields (loWord (words codes)) (ix2 r n) = nib (codes (ix2 ⟨r.val / 2, by omega⟩ n)) ⟨2 * (r.val % 2), by omega⟩ := by
  refine BitVec.eq_of_getLsbD_eq fun l hl => ?_
  have hlt : 4 * (r.val % 8) + l < 32 := by omega
  rw [fields_apply, nib_bit _ _ ⟨l, hl⟩, BitVec.getLsbD_setWidth, BitVec.getLsbD_sshiftRight, loWord_bit _ _ _ hlt]
  have e1 : (4 * (r.val % 8) + l) % 4 = l := by omega
  have e2 : (4 * (r.val % 8) + l) % 2 = l % 2 := by omega
  simp only [e1, e2, hl, hlt, decide_true, if_true, Bool.true_and]
  by_cases h : 2 ≤ l
  · rw [words_bit _ _ _ _ (by omega)]
    have e3 : (⟨4 * (r.val / 8) + (4 * (r.val % 8) + l - 2) / 8, by omega⟩ : Fin 1024) = ⟨r.val / 2, by omega⟩ := Fin.ext (by
      show 4 * (r.val / 8) + (4 * (r.val % 8) + l - 2) / 8 = r.val / 2; omega)
    have e4 : (4 * (r.val % 8) + l - 2) % 8 = 2 * (2 * (r.val % 2)) + (l - 2) := by omega
    have h32 : ¬ 32 ≤ 4 * (r.val % 8) + l := by omega
    simp [e3, e4, h32, show l < 32 by omega]
  · have h32 : ¬ 32 ≤ 4 * (r.val % 8) + l := by omega
    simp [h, h32, show l < 32 by omega]

/-- A field row of the high words is the high code's field of each half byte. -/
theorem hi_field (codes : Vec Ideal S1024x512 .i8) (r : Fin 2048) (n : Fin 512) :
    fields (hiWord (words codes)) (ix2 r n) = nib (codes (ix2 ⟨r.val / 2, by omega⟩ n)) ⟨2 * (r.val % 2) + 1, by omega⟩ := by
  refine BitVec.eq_of_getLsbD_eq fun l hl => ?_
  have hlt : 4 * (r.val % 8) + l < 32 := by omega
  rw [fields_apply, nib_bit _ _ ⟨l, hl⟩, BitVec.getLsbD_setWidth, BitVec.getLsbD_sshiftRight, hiWord_bit _ _ _ hlt]
  have e1 : (4 * (r.val % 8) + l) % 4 = l := by omega
  have e2 : (4 * (r.val % 8) + l) % 2 = l % 2 := by omega
  simp only [e1, e2, hl, hlt, decide_true, if_true, Bool.true_and]
  by_cases h : 2 ≤ l
  · rw [words_bit _ _ _ _ (by omega)]
    have e3 : (⟨4 * (r.val / 8) + (4 * (r.val % 8) + l) / 8, by omega⟩ : Fin 1024) = ⟨r.val / 2, by omega⟩ := Fin.ext (by
      show 4 * (r.val / 8) + (4 * (r.val % 8) + l) / 8 = r.val / 2; omega)
    have e4 : (4 * (r.val % 8) + l) % 8 = 2 * (2 * (r.val % 2) + 1) + (l - 2) := by omega
    have h32 : ¬ 32 ≤ 4 * (r.val % 8) + l := by omega
    simp [e3, e4, h32, show l < 32 by omega]
  · have h32 : ¬ 32 ≤ 4 * (r.val % 8) + l := by omega
    simp [h, h32, show l < 32 by omega]

/-! ## The weight block -/

/-- A quarter of the scale times four times a code less six is the scale times the code less one and a half. -/
theorem field_value (b : BitVec 8) (j : Fin 4) (s : EReal) :
    (((nib b j).toInt : ℝ) : EReal) * (s * ((1 / 4 : ℝ) : EReal)) = (((Spec.code b j : ℝ) - 3 / 2 : ℝ) : EReal) * s := by
  rw [nib_toInt, mul_comm s, ← mul_assoc, ← EReal.coe_mul]
  refine congrArg (fun z : ℝ => (z : EReal) * s) ?_
  push_cast
  ring

/-- A decoded row: the field's number times a quarter of its group's scale. -/
theorem wPiece_apply (f : IVec S2048x512 4) (scale : Vec Ideal S32x512 .f32) (g : Fin 32) (r : Fin 64) (n : Fin 512) :
    wPiece f (k0_pay594 scale) g (ix2 r n)
      = (((f (ix2 ⟨64 * g.val + r.val, by omega⟩ n)).toInt : ℝ) : EReal) * (scale (ix2 g n) * ((1 / 4 : ℝ) : EReal)) := by
  show (((extractStridedSlice S64x512 ![64 * g.val, 0] f (fRows_slices g) (ix2 r n)).toInt : ℝ) : EReal)
    * broadcastTo S64x512 (shapeCast S1x512 (extractStridedSlice S1x512 ![g.val, 0] (k0_pay594 scale) (scRow_slices g))
      shapeCasts_S1x512_S1x512) broadcasts_S1x512_S64x512 (ix2 r n) = _
  rw [extractStridedSlice_apply _ f _ _ (ix2 ⟨64 * g.val + r.val, by omega⟩ n) (fun a => match a with
    | ⟨0, _⟩ => rfl
    | ⟨1, _⟩ => (Nat.zero_add _).symm)]
  rw [broadcastTo_apply _ _ _ (ix2 (0 : Fin 1) n) (fun a => match a with
    | ⟨0, _⟩ => rfl
    | ⟨1, _⟩ => rfl)]
  rw [shapeCast_self]
  rw [extractStridedSlice_apply _ (k0_pay594 scale) _ _ (ix2 g n) (fun a => match a with
    | ⟨0, _⟩ => rfl
    | ⟨1, _⟩ => (Nat.zero_add _).symm)]
  refine congrArg (_ * ·) ?_
  show scale (ix2 g n) * FloatOps.ofBits (F := Ideal) .f32 0x3E800000#32 = _
  rw [f32_quarter]

/-- The row of the weight block that holds code `j` of byte row `k`. -/
def wRow (k : Fin 1024) (j : Fin 4) : Fin 4096 :=
  ⟨128 * (k.val / 32) + 64 * (j.val % 2) + (2 * k.val + j.val / 2) % 64, by omega⟩

/-- That row is the code less one and a half, times its group's scale. -/
theorem wBlk_apply (codes : Vec Ideal S1024x512 .i8) (scale : Vec Ideal S32x512 .f32) (k : Fin 1024) (j : Fin 4) (n : Fin 512) :
    wBlk codes scale (ix2 (wRow k j) n)
      = (((Spec.code (codes (ix2 k n)) j : ℝ) - 3 / 2 : ℝ) : EReal) * scale (ix2 ⟨k.val / 32, by omega⟩ n) := by
  unfold wBlk
  rw [concatenate_ofFn_apply (t := S4096x512) 0 (wPieces codes scale) (wCat _) rfl 64 rfl _ ⟨2 * (k.val / 32) + j.val % 2, by omega⟩
    (by show (128 * (k.val / 32) + 64 * (j.val % 2) + (2 * k.val + j.val / 2) % 64) / 64 = 2 * (k.val / 32) + j.val % 2; omega)
    (ix2 ⟨(2 * k.val + j.val / 2) % 64, by omega⟩ n)
    (by show (2 * k.val + j.val / 2) % 64 = (128 * (k.val / 32) + 64 * (j.val % 2) + (2 * k.val + j.val / 2) % 64) % 64; omega)
    (fun b hb => match b, hb with
      | ⟨0, _⟩, hb => absurd rfl hb
      | ⟨1, _⟩, _ => rfl)]
  unfold wPieces
  rw [wPiece_apply]
  have eg : (⟨(2 * (k.val / 32) + j.val % 2) / 2, by omega⟩ : Fin 32) = ⟨k.val / 32, by omega⟩ := Fin.ext (by
    show (2 * (k.val / 32) + j.val % 2) / 2 = k.val / 32; omega)
  rw [← field_value]
  refine congrArg₂ (fun (b : BitVec 4) (g : Fin 32) => ((b.toInt : ℝ) : EReal) * (scale (ix2 g n) * ((1 / 4 : ℝ) : EReal))) ?_ eg
  have er : 64 * ((2 * (k.val / 32) + j.val % 2) / 2) + (2 * k.val + j.val / 2) % 64 = 2 * k.val + j.val / 2 := by omega
  have ek : (⟨(2 * k.val + j.val / 2) / 2, by omega⟩ : Fin 1024) = k := Fin.ext (by show (2 * k.val + j.val / 2) / 2 = k.val; omega)
  by_cases h : j.val % 2 = 0
  · rw [if_pos (by show (2 * (k.val / 32) + j.val % 2) % 2 = 0; omega), lo_field]
    simp only [er, ek]
    exact congrArg (nib _) (Fin.ext (by show 2 * ((2 * k.val + j.val / 2) % 2) = j.val; omega))
  · rw [if_neg (by show ¬ (2 * (k.val / 32) + j.val % 2) % 2 = 0; omega), hi_field]
    simp only [er, ek]
    exact congrArg (nib _) (Fin.ext (by show 2 * ((2 * k.val + j.val / 2) % 2) + 1 = j.val; omega))

end Cert.KernelIdeal.Hand

end
-- ==== Proof.IdealOutput.lean ====
/- The output over the extended reals: the second Kronecker factor and the output block, entry by entry, from the collected
   products. -/
module

public import proofs.«01_k».proof.Proof.IdealInput

@[expose] public section

set_option maxRecDepth 16384

noncomputable section

namespace Cert.KernelIdeal.Hand

open Idealize.ShloMosaic Idealize.ShloMosaic.TcCoe Idealize.SL.Sem
open Cert.KernelIdeal.Gen

/-- The second Kronecker factor keeps the spread array where row and column agree modulo eight, cut to its own size. -/
theorem kronOf2_eq (pad : Vec Ideal S256x256 .f32) (r c : Fin 224) (r' c' : Fin 256) (hr : r'.val = r.val) (hc : c'.val = c.val) :
    kronOf2 pad (ix2 r c)
      = Scalar.select (IntOp.cmpi .eq (fmodW (iotaRow (ix2 r' c')) 8#32) (fmodW (iotaCol (ix2 r' c')) 8#32)) (spread 8#32 pad (ix2 r' c'))
        (FloatOps.ofBits (F := Ideal) .f32 0x00000000#32) := by
  unfold kronOf2 k0_pay335
  refine (extractStridedSlice_apply _ _ _ _ (ix2 r' c') (fun a => match a with
    | ⟨0, _⟩ => hr.trans (Nat.zero_add _).symm
    | ⟨1, _⟩ => hc.trans (Nat.zero_add _).symm)).trans ?_
  rfl

/-- The padded last factor's corner is the factor. -/
theorem pad2_apply (u1 : Vec Ideal S28x28 .bf16) (a b : Fin 256) (ha : a.val < 28) (hb : b.val < 28) :
    pad2 u1 (ix2 a b) = u1 (ix2 ⟨a.val, ha⟩ ⟨b.val, hb⟩) := by
  unfold pad2
  rw [dif_pos (show (ix2 a b 0).val < 28 ∧ (ix2 a b 1).val < 28 from ⟨ha, hb⟩)]
  unfold k0_pay326
  dsimp only
  rw [shapeCast_self]
  rfl

/-- The second Kronecker factor: the last factor with the identity of size eight. -/
theorem kron2_apply (u1 : Vec Ideal S28x28 .bf16) (r c : Fin 224) :
    kronOf2 (pad2 u1) (ix2 r c) = if r.val % 8 = c.val % 8 then u1 (ix2 ⟨r.val / 8, by omega⟩ ⟨c.val / 8, by omega⟩) else 0 := by
  rw [kronOf2_eq _ r c ⟨r.val, by omega⟩ ⟨c.val, by omega⟩ rfl rfl, row_word, col_word, fmodW_8, fmodW_8,
    select_eq_words _ _ (by omega) (by omega), spread_apply _ 8 fdivW_8,
    pad2_apply u1 _ _ (by show r.val / 8 < 28; omega) (by show c.val / 8 < 28; omega), f32_zero]

/-- The second Kronecker factor times a slab: a sum over the slab's rows. -/
theorem yBlkOf_apply (k2 : FVec Ideal S224x224 .bf16) (r : Vec Ideal S16x224x512 .f32) (t : Fin 16) (i : Fin 224) (q : Fin 512) :
    yBlkOf k2 r t (ix2 i q) = ∑ k : Fin 224, k2 (ix2 i k) * r (ix3 t k q) := by
  unfold yBlkOf
  refine (matmul_plain_zero (M := 224) (K := 224) (N := 512) (φ₁ := .bf16) (φ₂ := .bf16) k2 _ i q).trans ?_
  refine Finset.sum_congr rfl fun k _ => congrArg (k2 (ix2 i k) * ·) ?_
  show shapeCast S224x512 (View.ld r (Rect.unit ![t.val, 0, 0] S1x224x512.size (rSlab_inb t))) shapeCasts_S1x224x512_S224x512
    (ix2 k q) = _
  rw [shapeCast_apply _ shapeCasts_S1x224x512_S224x512 _ (ix3 (0 : Fin 1) k q) (by
    rw [Shape.rowMajor_val_two, Shape.rowMajor_val_three]
    show (0 * 224 + k.val) * 512 + q.val = k.val * 512 + q.val
    omega)]
  rw [View.ld_unit]
  exact extractStridedSlice_apply _ _ _ _ _ (fun a => match a with
    | ⟨0, _⟩ => rfl
    | ⟨1, _⟩ => (Nat.zero_add _).symm
    | ⟨2, _⟩ => (Nat.zero_add _).symm)

/-- A piece of the output: its first eight rows from one slab, the rest from the next. -/
theorem yPieceOf_apply (k2 : FVec Ideal S224x224 .bf16) (r : Vec Ideal S16x224x512 .f32) (t : Fin 8) (a : Fin 28) (i : Fin 16)
    (q : Fin 512) : yPieceOf k2 r t a (ix2 i q)
      = yBlkOf k2 r ⟨2 * t.val + i.val / 8, by omega⟩ (ix2 ⟨8 * a.val + i.val % 8, by omega⟩ q) := by
  have hs (t' : Fin 16) : extractStridedSlice S8x512 ![8 * a.val, 0] (yBlkOf k2 r t') (yRows_slices a) (ix2 ⟨i.val % 8, by omega⟩ q)
      = yBlkOf k2 r t' (ix2 ⟨8 * a.val + i.val % 8, by omega⟩ q) :=
    extractStridedSlice_apply _ _ _ _ _ (fun a => match a with
      | ⟨0, _⟩ => rfl
      | ⟨1, _⟩ => (Nat.zero_add _).symm)
  show concatenate S16x512 0
    [⟨S8x512, extractStridedSlice S8x512 ![8 * a.val, 0] (yBlkOf k2 r ⟨2 * t.val, by omega⟩) (yRows_slices a)⟩,
     ⟨S8x512, extractStridedSlice S8x512 ![8 * a.val, 0] (yBlkOf k2 r ⟨2 * t.val + 1, by omega⟩) (yRows_slices a)⟩]
    concatenates_S8x512_S8x512_S16x512_d0 (ix2 i q) = _
  by_cases h : i.val < 8
  · rw [concatenate_pair_apply_left (t := S16x512) (s₁ := S8x512) (s₂ := S8x512) 0 _ _ _ _ rfl (ix2 (⟨i.val % 8, by omega⟩ : Fin 8) q) (fun b => match b with
      | ⟨0, _⟩ => by show i.val % 8 = i.val; omega
      | ⟨1, _⟩ => rfl)]
    refine (hs _).trans (congrArg (fun t' => yBlkOf k2 r t' _) (Fin.ext ?_))
    show 2 * t.val = 2 * t.val + i.val / 8
    omega
  · rw [concatenate_pair_apply_right (t := S16x512) (s₁ := S8x512) (s₂ := S8x512) 0 _ _ _ _ rfl rfl (ix2 (⟨i.val % 8, by omega⟩ : Fin 8) q)
      (fun b hb => match b, hb with
        | ⟨0, _⟩, hb => absurd rfl hb
        | ⟨1, _⟩, _ => rfl)
      (by show i.val % 8 + 8 = i.val; omega)]
    refine (hs _).trans (congrArg (fun t' => yBlkOf k2 r t' _) (Fin.ext ?_))
    show 2 * t.val + 1 = 2 * t.val + i.val / 8
    omega

/-- The output at row `i`, column `q`: the last factor's row times the collected products of that row. -/
theorem yAll_apply (u1 : Vec Ideal S28x28 .bf16) (r : Vec Ideal S16x224x512 .f32) (i : Fin 128) (q : Fin 14336) :
    yAll u1 r (ix2 i q) = Spec.out (fun i p q => r (ix3 ⟨i.val / 8, by omega⟩ ⟨8 * p.val + i.val % 8, by omega⟩ q))
      (fun a p => u1 (ix2 a p)) i ⟨q.val / 512, by omega⟩ ⟨q.val % 512, by omega⟩ := by
  have h16 : i.val / 16 < 8 := by omega
  have h512 : q.val / 512 < 28 := by omega
  show yPieceOf (kronOf2 (pad2 u1)) r ⟨i.val / 16, h16⟩ ⟨q.val / 512, h512⟩ (ix2 ⟨i.val % 16, _⟩ ⟨q.val % 512, _⟩) = _
  rw [yPieceOf_apply, yBlkOf_apply]
  simp only [kron2_apply]
  have e1 : (8 * (q.val / 512) + i.val % 16 % 8) % 8 = i.val % 8 := by omega
  have e2 : (8 * (q.val / 512) + i.val % 16 % 8) / 8 = q.val / 512 := by omega
  have e3 : (⟨2 * (i.val / 16) + i.val % 16 / 8, by omega⟩ : Fin 16) = ⟨i.val / 8, by omega⟩ := Fin.ext (by
    show 2 * (i.val / 16) + i.val % 16 / 8 = i.val / 8; omega)
  simp only [e1, e2, e3]
  exact sum_stride (n := 28) (m := 8) (N := 224) rfl (i.val % 8) (by omega) (fun c => u1 (ix2 ⟨q.val / 512, h512⟩ c)) _

end Cert.KernelIdeal.Hand

end
-- ==== Proof.IdealProduct.lean ====
/- The kernel's result over the extended reals: one step's product and the collected output, entry by entry, as the layer's
   plain sums of the launch's arguments. -/
module

public import proofs.«01_k».proof.Proof.IdealWeight
public import proofs.«01_k».proof.Proof.IdealOutput
public import proofs.«01_k».proof.Proof.IdealRun

@[expose] public section

set_option maxRecDepth 16384

noncomputable section

namespace Cert.KernelIdeal.Hand

open Idealize.ShloMosaic Idealize.ShloMosaic.TcCoe Idealize.SL.Sem
open Cert.KernelIdeal Cert.KernelIdeal.Gen

/-- The rows of the weight block are the codes of the byte rows, four to a byte. -/
def rowEquiv : Fin 1024 × Fin 4 ≃ Fin 4096 where
  toFun p := wRow p.1 p.2
  invFun r := (⟨(128 * (r.val / 128) + 2 * (r.val % 64) + r.val % 128 / 64) / 4, by omega⟩,
    ⟨(128 * (r.val / 128) + 2 * (r.val % 64) + r.val % 128 / 64) % 4, by omega⟩)
  left_inv p := by
    obtain ⟨k, j⟩ := p
    have h1 : (wRow k j).val / 128 = k.val / 32 := by simp only [wRow]; omega
    have h2 : (wRow k j).val % 64 = (2 * k.val + j.val / 2) % 64 := by simp only [wRow]; omega
    have h3 : (wRow k j).val % 128 / 64 = j.val % 2 := by
      have e : (wRow k j).val % 128 = 64 * (j.val % 2) + (2 * k.val + j.val / 2) % 64 := by simp only [wRow]; omega
      rw [e]; omega
    refine Prod.ext (Fin.ext ?_) (Fin.ext ?_)
    · dsimp only; rw [h1, h2, h3]; omega
    · dsimp only; rw [h1, h2, h3]; omega
  right_inv r := by
    refine Fin.ext ?_
    simp only [wRow]
    generalize hf : 128 * (r.val / 128) + 2 * (r.val % 64) + r.val % 128 / 64 = f
    have h1 : f / 4 / 32 = r.val / 128 := by omega
    have h2 : 2 * (f / 4) + f % 4 / 2 = f / 2 := by omega
    have h3 : f % 4 % 2 = r.val % 128 / 64 := by omega
    have h4 : f / 2 % 64 = r.val % 64 := by omega
    rw [h1, h2, h3, h4]
    omega

/-- The block of 256 rows that a code's row lies in is its feature's. -/
theorem wRow_block (k : Fin 1024) (j : Fin 4) : (wRow k j).val / 256 = k.val / 64 := by
  have key : ∀ A r : ℕ, r < 128 → (128 * A + r) / 256 = A / 2 := fun A r h => by omega
  have e : (wRow k j).val = 128 * (k.val / 32) + (64 * (j.val % 2) + (2 * k.val + j.val / 2) % 64) := Nat.add_assoc _ _ _
  rw [e, key _ _ (by omega)]; omega

/-- Within its block, the row is the one that the permuted input holds its feature at. -/
theorem wRow_feat (k : Fin 1024) (j : Fin 4) :
    (feat ⟨(wRow k j).val % 256, Nat.mod_lt _ (by decide)⟩).val = (4 * k.val + j.val) % 256 := by
  have key : ∀ A h r : ℕ, h < 2 → r < 64 → (128 * A + 64 * h + r) % 256 = 128 * (A % 2) + 64 * h + r := fun A h r _ _ => by omega
  have e : (wRow k j).val % 256 = 128 * (k.val / 32 % 2) + 64 * (j.val % 2) + (2 * k.val + j.val / 2) % 64 :=
    key _ _ _ (by omega) (by omega)
  have key' : ∀ A h r : ℕ, A < 2 → h < 2 → r < 64 → (128 * A + 64 * h + r) / 128 * 128 + (128 * A + 64 * h + r) % 64 * 2
      + (128 * A + 64 * h + r) % 128 / 64 = 128 * A + 2 * r + h := fun A h r _ _ _ => by omega
  have e' : (2 * k.val + j.val / 2) % 64 = 2 * (k.val % 32) + j.val / 2 := by omega
  simp only [feat]
  rw [e, key' _ _ _ (by omega) (by omega) (by omega), e']
  omega

/-- One step's product, entry by entry. -/
theorem rBlk_apply (z : Vec Ideal S128x4096 .bf16) (codes : Vec Ideal S1024x512 .i8) (scale : Vec Ideal S32x512 .f32)
    (u2 : Vec Ideal S512x512 .bf16) (i : Fin 128) (q : Fin 512) :
    rBlk z codes scale u2 (ix2 i q) = ∑ n : Fin 512, (∑ k : Fin 1024, ∑ j : Fin 4, z (ix2 i (wRow k j))
      * ((((Spec.code (codes (ix2 k n)) j : ℝ) - 3 / 2 : ℝ) : EReal) * scale (ix2 ⟨k.val / 32, by omega⟩ n))) * u2 (ix2 q n) := by
  unfold rBlk
  refine (matmul_transposed_zero (M := 128) (K := 512) (N := 512) (φ₁ := .bf16) (φ₂ := .bf16) _ u2 i q).trans ?_
  refine Finset.sum_congr rfl fun n _ => congrArg (· * u2 (ix2 q n)) ?_
  refine (matmul_plain_zero (M := 128) (K := 4096) (N := 512) (φ₁ := .bf16) (φ₂ := .bf16) z (wBlk codes scale) i n).trans ?_
  rw [← Equiv.sum_comp rowEquiv, Fintype.sum_prod_type]
  refine Finset.sum_congr rfl fun k _ => Finset.sum_congr rfl fun j _ => ?_
  rw [← wBlk_apply]
  rfl

variable (m : (ℓ : Loc nD τ sig) → Buf (Elt Ideal) ℓ) (c : Dev nD)

/-- The launch's input, codes, scales and factors, as functions of their coordinates. -/
def xOf (i : Fin 128) (k : Fin 4096) : EReal := (m ((c.tc : Thread nD τ).loc main_arg0) : Vec Ideal S1x128x4096 .bf16) (ix3 0 i k)
def v1Of (a b : Fin 16) : EReal := (m ((c.tc : Thread nD τ).loc main_arg1) : Vec Ideal S16x16 .bf16) (ix2 a b)
def v2Of (a b : Fin 256) : EReal := (m ((c.tc : Thread nD τ).loc main_arg2) : Vec Ideal S256x256 .bf16) (ix2 a b)
def codesOf (k : Fin 1024) (n : Fin 14336) : BitVec 8 := (m ((c.tc : Thread nD τ).loc main_arg3) : Vec Ideal S1024x14336 .i8) (ix2 k n)
def scaleOf (g : Fin 32) (n : Fin 14336) : EReal := (m ((c.tc : Thread nD τ).loc main_arg4) : Vec Ideal S32x14336 .f32) (ix2 g n)
def u1Of (a b : Fin 28) : EReal := (m ((c.tc : Thread nD τ).loc main_arg5) : Vec Ideal S28x28 .bf16) (ix2 a b)
def u2Of (a b : Fin 512) : EReal := (m ((c.tc : Thread nD τ).loc main_arg6) : Vec Ideal S512x512 .bf16) (ix2 a b)

theorem step_lt (t : Fin cfg0.N) : t.val < 28 := Nat.lt_of_lt_of_eq t.isLt N_0

/-- The block's number along the columns is the step's. -/
theorem index_3 (t : Fin cfg0.N) : win0_3.index t = ![0, t.val] := by
  show cc0_transform_3 (grid0.coords t) = _
  unfold cc0_transform_3
  rw [coords_zero t]
  have := step_lt t
  simp only [BitVec.toNat_ofNat]
  rw [Nat.mod_eq_of_lt (show t.val < 2 ^ 32 by omega), Nat.zero_mod]
theorem index_4 (t : Fin cfg0.N) : win0_4.index t = ![0, t.val] := by
  show cc0_transform_4 (grid0.coords t) = _
  unfold cc0_transform_4
  rw [coords_zero t]
  have := step_lt t
  simp only [BitVec.toNat_ofNat]
  rw [Nat.mod_eq_of_lt (show t.val < 2 ^ 32 by omega), Nat.zero_mod]

/-- Step `t`'s code block is the codes' columns `512 t` to `512 t + 511`. -/
theorem iblk_3_apply (t : Fin cfg0.N) (k : Fin 1024) (n : Fin 512) :
    (iblk m c 3 t : Vec Ideal S1024x512 .i8) (ix2 k n) = codesOf m c k ⟨512 * t.val + n.val, by have := step_lt t; omega⟩ := by
  unfold codesOf
  rw [← V_main_arg3 m c]
  refine congrArg (V m c main_arg3) (funext fun a => Fin.ext ?_)
  fin_cases a
  · show win0_3.index t 0 * 1024 + 1 * k.val = k.val
    rw [index_3]; show 0 * 1024 + 1 * k.val = k.val; omega
  · show win0_3.index t 1 * 512 + 1 * n.val = 512 * t.val + n.val
    rw [index_3]; show t.val * 512 + 1 * n.val = 512 * t.val + n.val; omega

/-- Step `t`'s scale block likewise. -/
theorem iblk_4_apply (t : Fin cfg0.N) (g : Fin 32) (n : Fin 512) :
    (iblk m c 4 t : Vec Ideal S32x512 .f32) (ix2 g n) = scaleOf m c g ⟨512 * t.val + n.val, by have := step_lt t; omega⟩ := by
  unfold scaleOf
  rw [← V_main_arg4 m c]
  refine congrArg (V m c main_arg4) (funext fun a => Fin.ext ?_)
  fin_cases a
  · show win0_4.index t 0 * 32 + 1 * g.val = g.val
    rw [index_4]; show 0 * 32 + 1 * g.val = g.val; omega
  · show win0_4.index t 1 * 512 + 1 * n.val = 512 * t.val + n.val
    rw [index_4]; show t.val * 512 + 1 * n.val = 512 * t.val + n.val; omega

/-- The transformed input is the rotated input, its features permuted within each group. -/
theorem zFun_apply (i : Fin 128) (q : Fin 4096) : zFun m c (ix2 i q)
    = Spec.rot (xOf m c) (v1Of m c) (v2Of m c) i ⟨q.val / 256, by omega⟩ (feat ⟨q.val % 256, by omega⟩) := by
  have hx : (fun (i : Fin 128) (k : Fin 4096) => (V m c (Pipeline.arrRef spec0 0) : Vec Ideal S128x4096 .bf16) (ix2 i k)) = xOf m c := by
    funext i k
    refine (congrFun (V_main_v0 m c) (ix2 i k)).trans ?_
    exact shapeCast_apply _ _ _ (ix3 (0 : Fin 1) i k) (by
      rw [Shape.rowMajor_val_two, Shape.rowMajor_val_three]
      show (0 * 128 + i.val) * 4096 + k.val = i.val * 4096 + k.val
      omega)
  have h1 : (fun (a b : Fin 16) => (V m c (Pipeline.arrRef spec0 1) : Vec Ideal S16x16 .bf16) (ix2 a b)) = v1Of m c :=
    funext fun a => funext fun b => congrFun (V_main_arg1 m c) (ix2 a b)
  have h2 : (fun (a b : Fin 256) => (V m c (Pipeline.arrRef spec0 2) : Vec Ideal S256x256 .bf16) (ix2 a b)) = v2Of m c :=
    funext fun a => funext fun b => congrFun (V_main_arg2 m c) (ix2 a b)
  unfold zFun
  rw [zAll_apply, hx, h1, h2]

/-- Step `t`'s product is block `t` of the hidden product times the transposed last factor. -/
theorem rStep_apply (t : Fin cfg0.N) (i : Fin 128) (q : Fin 512) : rStep m c t (ix2 i q)
    = Spec.outer (Spec.hidden (Spec.rot (xOf m c) (v1Of m c) (v2Of m c)) (Spec.weight (codesOf m c) (scaleOf m c))) (u2Of m c) i
      ⟨t.val, step_lt t⟩ q := by
  unfold rStep
  rw [rBlk_apply]
  unfold Spec.outer
  refine Finset.sum_congr rfl fun n _ => congrArg₂ (· * ·) ?_ (congrFun (V_main_arg6 m c) (ix2 q n))
  unfold Spec.hidden
  refine Finset.sum_congr rfl fun k _ => Finset.sum_congr rfl fun j _ => congrArg₂ (· * ·) ?_ ?_
  · rw [zFun_apply]
    refine congrArg₂ (Spec.rot (xOf m c) (v1Of m c) (v2Of m c) i) (Fin.ext ?_) (Fin.ext ?_)
    · exact wRow_block k j
    · exact wRow_feat k j
  · rw [iblk_3_apply, iblk_4_apply]
    rfl

/-- The collected products, row by row. -/
theorem rFun_apply (i : Fin 128) (p : Fin 28) (q : Fin 512) :
    rFun m c (ix3 ⟨i.val / 8, by omega⟩ ⟨8 * p.val + i.val % 8, by omega⟩ q)
      = rStep m c ⟨p.val, Nat.lt_of_lt_of_eq p.isLt N_0.symm⟩ (ix2 i q) := by
  have ht : stepOf (ix3 ⟨i.val / 8, by omega⟩ ⟨8 * p.val + i.val % 8, by omega⟩ q) = ⟨p.val, Nat.lt_of_lt_of_eq p.isLt N_0.symm⟩ :=
    Fin.ext (by show (8 * p.val + i.val % 8) / 8 = p.val; omega)
  unfold rFun
  rw [ht]
  unfold rPiece
  rw [shapeCast_apply _ _ _ (ix2 (⟨i.val % 8, by omega⟩ : Fin 8) q) (by
    rw [Shape.rowMajor_val_two, Shape.rowMajor_val_three]
    show i.val % 8 * 512 + q.val = (0 * 8 + (8 * p.val + i.val % 8) % 8) * 512 + q.val
    omega)]
  exact extractStridedSlice_apply _ _ _ _ (ix2 i q) (fun a => match a with
    | ⟨0, _⟩ => by show i.val = 8 * (i.val / 8) + i.val % 8; omega
    | ⟨1, _⟩ => (Nat.zero_add _).symm)

/-- The kernel's output is the layer. -/
theorem yFun_apply (i : Fin 128) (n : Fin 14336) : yFun m c (ix2 i n)
    = Spec.layer (xOf m c) (v1Of m c) (v2Of m c) (codesOf m c) (scaleOf m c) (u1Of m c) (u2Of m c) i ⟨n.val / 512, by omega⟩
      ⟨n.val % 512, by omega⟩ := by
  unfold yFun Spec.layer
  rw [yAll_apply]
  unfold Spec.out
  refine Finset.sum_congr rfl fun p _ => congrArg₂ (· * ·) (congrFun (V_main_arg5 m c) _) ?_
  exact (rFun_apply m c i p _).trans (rStep_apply m c _ i _)

end Cert.KernelIdeal.Hand

end
-- ==== Proof.Reference.lean ====
/- The reference's result over the extended reals, entry by entry: its chain of operations is the layer's plain sums. -/
module

public import proofs.«01_k».proof.Proof.Gen.ReferenceIdeal.Read
public import proofs.«01_k».proof.Proof.Spec
public import Idealize.ShloMosaic.Lib.Pointwise

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.ReferenceIdeal.Read

/-! ## The rotated input -/

/-- The input's blocks times the second factor. -/
theorem inner_at (x0 : Vec Ideal S1x128x4096 .bf16) (x2 : Vec Ideal S256x256 .bf16) (i : Fin 128) (c : Fin 16) (b : Fin 256) :
    val_main_v2 (F := Ideal) x0 x2 (ix3 i c b) = Spec.inner (fun i k => x0 (ix3 0 i k)) (fun k b => x2 (ix2 k b)) i c b := by
  refine (val_main_v1_apply x0 x2 (ix3 i c b)).trans ?_
  refine Finset.sum_congr rfl fun k _ => congrArg₂ (· * ·) ?_ (congrArg x2 (funext fun a => Fin.ext (match a with
    | ⟨0, _⟩ => rfl
    | ⟨1, _⟩ => rfl)))
  rw [val_main_v0_apply]
  refine congrArg x0 (funext fun a => Fin.ext (match a with
    | ⟨0, _⟩ => rfl
    | ⟨1, _⟩ => ?_
    | ⟨2, _⟩ => ?_))
  · show ((i.val * 16 + c.val) * 256 + k.val) / 4096 % 128 = i.val; omega
  · show ((i.val * 16 + c.val) * 256 + k.val) % 4096 = 256 * c.val + k.val; omega

/-- The rotated input, its features read four to a byte row. -/
theorem rot_at (x0 : Vec Ideal S1x128x4096 .bf16) (x1 : Vec Ideal S16x16 .bf16) (x2 : Vec Ideal S256x256 .bf16) (i : Fin 128)
    (j : Fin 4) (k : Fin 1024) : val_main_v7 (F := Ideal) x0 x1 x2 (ix3 i j k)
      = Spec.rot (fun i k => x0 (ix3 0 i k)) (fun c a => x1 (ix2 c a)) (fun k b => x2 (ix2 k b)) i ⟨k.val / 64, by omega⟩
        ⟨(4 * k.val + j.val) % 256, by omega⟩ := by
  rw [val_main_v7_apply, val_main_v6_apply]
  show val_main_v4 (F := Ideal) x0 x1 x2 _ = _
  rw [val_main_v4_apply, val_main_v3_apply]
  refine Finset.sum_congr rfl fun c _ => congrArg₂ (· * ·) (congrArg x1 (funext fun a => Fin.ext (match a with
    | ⟨0, _⟩ => rfl
    | ⟨1, _⟩ => ?_))) ?_
  · show ((i.val * 1024 + k.val) * 4 + j.val) / 256 % 16 = k.val / 64; omega
  · refine Eq.trans ?_ (inner_at x0 x2 i c ⟨(4 * k.val + j.val) % 256, by omega⟩)
    refine congrArg (val_main_v2 (F := Ideal) x0 x2) (funext fun a => Fin.ext (match a with
      | ⟨0, _⟩ => ?_
      | ⟨1, _⟩ => rfl
      | ⟨2, _⟩ => ?_))
    · show ((i.val * 1024 + k.val) * 4 + j.val) / 4096 = i.val; omega
    · show ((i.val * 1024 + k.val) * 4 + j.val) % 256 = (4 * k.val + j.val) % 256; omega

/-! ## The decoded weights -/

/-- Shifted and masked, the byte leaves its code. -/
theorem code_toInt : ∀ (b : BitVec 8) (j : Fin 4),
    (IntOp.andi (IntOp.shrsi .host (b.setWidth 32) (IntOp.muli (BitVec.ofNat 32 j.val) 2#32)) 3#32).toInt = (Spec.code b j : ℤ) := by
  decide +kernel

theorem bf16_three_halves : FloatOps.ofBits (F := Ideal) .bf16 0x3FC0#16 = ((3 / 2 : ℝ) : EReal) := by
  simp [Ideal.ofBits, Ideal.ieee, -EReal.coe_mul]; norm_num

/-- The code less one and a half. -/
theorem code_at (x3 : Vec Ideal S1024x14336 .i8) (j : Fin 4) (k : Fin 1024) (n : Fin 14336) :
    val_main_v21 (F := Ideal) x3 (ix3 j k n) = (((Spec.code (x3 (ix2 k n)) j : ℝ) - 3 / 2 : ℝ) : EReal) := by
  have h16 : val_main_v18 (F := Ideal) x3 (ix3 j k n)
      = IntOp.andi (IntOp.shrsi .host ((x3 (ix2 k n)).setWidth 32) (IntOp.muli (BitVec.ofNat 32 j.val) 2#32)) 3#32 := by
    rw [val_main_v18_apply, val_main_v16_apply, val_main_v14_apply, val_main_v13_apply, val_main_v12_apply, val_main_v15_apply,
      val_main_v11_apply, val_main_v10_apply, val_main_v8_apply, val_main_v9_apply, val_main_c_apply, val_main_v17_apply,
      val_main_c_0_apply]
    refine congrArg (fun y => IntOp.andi (IntOp.shrsi .host ((x3 y).setWidth 32) _) _) (funext fun a => Fin.ext (match a with
      | ⟨0, _⟩ => rfl
      | ⟨1, _⟩ => rfl))
  rw [val_main_v21_apply, val_main_v19_apply, val_main_v20_apply, val_main_cst_apply, h16, bf16_three_halves]
  show ((((IntOp.andi _ _).toInt : ℝ) : EReal) - ((3 / 2 : ℝ) : EReal)) = _
  rw [code_toInt, ← EReal.coe_sub]
  norm_num

/-- The weight. -/
theorem weight_at (x3 : Vec Ideal S1024x14336 .i8) (x4 : Vec Ideal S32x14336 .f32) (j : Fin 4) (k : Fin 1024) (n : Fin 14336) :
    val_main_v27 (F := Ideal) x3 x4 (ix3 j k n) = Spec.weight (fun k n => x3 (ix2 k n)) (fun g n => x4 (ix2 g n)) k j n := by
  have h27 : idx_main_v27 (ix3 j k n) = ix4 j (⟨k.val / 32, by omega⟩ : Fin 32) (⟨k.val % 32, by omega⟩ : Fin 32) n :=
    funext fun a => Fin.ext (match a with
      | ⟨0, _⟩ => by show ((j.val * 1024 + k.val) * 14336 + n.val) / 14680064 = j.val; omega
      | ⟨1, _⟩ => by show ((j.val * 1024 + k.val) * 14336 + n.val) / 458752 % 32 = k.val / 32; omega
      | ⟨2, _⟩ => by show ((j.val * 1024 + k.val) * 14336 + n.val) / 14336 % 32 = k.val % 32; omega
      | ⟨3, _⟩ => by show ((j.val * 1024 + k.val) * 14336 + n.val) % 14336 = n.val; omega)
  rw [val_main_v27_apply, h27]
  show val_main_v22 (F := Ideal) x3 _ * val_main_v25 (F := Ideal) x4 _ = _
  rw [val_main_v22_apply, val_main_v25_apply, val_main_v24_apply]
  refine congrArg₂ (· * ·) (Eq.trans (congrArg (val_main_v21 (F := Ideal) x3) (funext fun a => Fin.ext (match a with
    | ⟨0, _⟩ => ?_
    | ⟨1, _⟩ => ?_
    | ⟨2, _⟩ => ?_))) (code_at x3 j k n)) (congrArg x4 (funext fun a => Fin.ext (match a with
    | ⟨0, _⟩ => rfl
    | ⟨1, _⟩ => rfl)))
  · show (((j.val * 32 + k.val / 32) * 32 + k.val % 32) * 14336 + n.val) / 14680064 = j.val; omega
  · show (((j.val * 32 + k.val / 32) * 32 + k.val % 32) * 14336 + n.val) / 14336 % 1024 = k.val; omega
  · show (((j.val * 32 + k.val / 32) * 32 + k.val % 32) * 14336 + n.val) % 14336 = n.val; omega

/-! ## The hidden product and the output -/

/-- The product over the four codes of the byte rows. -/
theorem hidden_at (x0 : Vec Ideal S1x128x4096 .bf16) (x1 : Vec Ideal S16x16 .bf16) (x2 : Vec Ideal S256x256 .bf16)
    (x3 : Vec Ideal S1024x14336 .i8) (x4 : Vec Ideal S32x14336 .f32) (i : Fin 128) (n : Fin 14336) :
    val_main_v28 (F := Ideal) x0 x1 x2 x3 x4 (ix2 i n)
      = Spec.hidden (Spec.rot (fun i k => x0 (ix3 0 i k)) (fun c a => x1 (ix2 c a)) (fun k b => x2 (ix2 k b)))
        (Spec.weight (fun k n => x3 (ix2 k n)) (fun g n => x4 (ix2 g n))) i n := by
  unfold val_main_v28 Spec.hidden
  simp only [Host.dotGeneral]
  rw [Ideal.dotGeneral_apply, DotDims.sum_contr₂ (a := 2) (b := 1) (K₁ := 1024) (K₂ := 4) _ rfl rfl rfl]
  refine Finset.sum_congr rfl fun k _ => Finset.sum_congr rfl fun j _ => ?_
  rw [← rot_at, ← weight_at]
  refine congrArg₂ (· * ·) (congrArg (val_main_v7 (F := Ideal) x0 x1 x2) (funext fun a => Fin.ext (match a with
    | ⟨0, _⟩ => rfl
    | ⟨1, _⟩ => rfl
    | ⟨2, _⟩ => rfl))) (congrArg (val_main_v27 (F := Ideal) x3 x4) (funext fun a => Fin.ext (match a with
    | ⟨0, _⟩ => rfl
    | ⟨1, _⟩ => rfl
    | ⟨2, _⟩ => rfl)))

/-- The reference's result is the layer. -/
theorem result_at (x0 : Vec Ideal S1x128x4096 .bf16) (x1 : Vec Ideal S16x16 .bf16) (x2 : Vec Ideal S256x256 .bf16)
    (x3 : Vec Ideal S1024x14336 .i8) (x4 : Vec Ideal S32x14336 .f32) (x5 : Vec Ideal S28x28 .bf16) (x6 : Vec Ideal S512x512 .bf16)
    (i : Fin 128) (n : Fin 14336) : val_main_v36 (F := Ideal) x0 x1 x2 x3 x4 x5 x6 (ix3 0 i n)
      = Spec.layer (fun i k => x0 (ix3 0 i k)) (fun c a => x1 (ix2 c a)) (fun k b => x2 (ix2 k b)) (fun k n => x3 (ix2 k n))
        (fun g n => x4 (ix2 g n)) (fun a p => x5 (ix2 a p)) (fun q k => x6 (ix2 q k)) i ⟨n.val / 512, by omega⟩ ⟨n.val % 512, by omega⟩ := by
  rw [val_main_v36_apply]
  show val_main_v34 (F := Ideal) x0 x1 x2 x3 x4 x5 x6 _ = _
  rw [val_main_v34_apply, val_main_v33_apply]
  unfold Spec.layer Spec.out
  refine Finset.sum_congr rfl fun p _ => (mul_comm _ _).trans (congrArg₂ (· * ·) (congrArg x5 (funext fun a => Fin.ext (match a with
    | ⟨0, _⟩ => ?_
    | ⟨1, _⟩ => rfl))) ?_)
  · show ((0 * 128 + i.val) * 14336 + n.val) / 512 % 28 = n.val / 512; omega
  show val_main_v31 (F := Ideal) x0 x1 x2 x3 x4 x6 _ = _
  rw [val_main_v31_apply]
  unfold Spec.outer
  refine Finset.sum_congr rfl fun q _ => congrArg₂ (· * ·) ?_ (congrArg x6 (funext fun a => Fin.ext (match a with
    | ⟨0, _⟩ => ?_
    | ⟨1, _⟩ => rfl)))
  · rw [val_main_v30_apply]
    refine Eq.trans ?_ (hidden_at x0 x1 x2 x3 x4 i ⟨512 * p.val + q.val, by omega⟩)
    refine congrArg (val_main_v28 (F := Ideal) x0 x1 x2 x3 x4) (funext fun a => Fin.ext (match a with
      | ⟨0, _⟩ => ?_
      | ⟨1, _⟩ => ?_))
    · show ((((0 * 128 + i.val) * 14336 + n.val) / 14336 * 28 + p.val) * 512 + q.val) / 14336 = i.val; omega
    · show ((((0 * 128 + i.val) * 14336 + n.val) / 14336 * 28 + p.val) * 512 + q.val) % 14336 = 512 * p.val + q.val; omega
  · show ((0 * 128 + i.val) * 14336 + n.val) % 512 = n.val % 512; omega

end Cert.ReferenceIdeal.Hand

end
-- ==== Proof.Agree.lean ====
/- The two results are one array: each is the layer, entry by entry, at arguments that agree. -/
module

public import proofs.«01_k».proof.Proof.IdealProduct
public import proofs.«01_k».proof.Proof.Reference

@[expose] public section

noncomputable section

namespace Cert.Agree

open Idealize.ShloMosaic Idealize.ShloMosaic.TcCoe Idealize.SL.Sem
open Cert.KernelIdeal Cert.KernelIdeal.Gen Cert.KernelIdeal.Hand

/-- The reference's array at the launch's arguments is the kernel's output, its rows laid along the batch. -/
theorem result_eq (m : (ℓ : Loc nD τ sig) → Buf (Elt Ideal) ℓ) (c : Dev nD) :
    Cert.ReferenceIdeal.Read.val_main_v36 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6))
      = shapeCast S1x128x14336 (yFun m c) shapeCasts_S128x14336_S1x128x14336 := by
  funext z
  have hz : z = ix3 (0 : Fin 1) (z 1) (z 2) := funext fun a => match a with
    | ⟨0, _⟩ => Fin.ext (Nat.lt_one_iff.mp (z 0).isLt)
    | ⟨1, _⟩ => rfl
    | ⟨2, _⟩ => rfl
  generalize z 1 = i at hz
  generalize z 2 = n at hz
  subst hz
  refine (Cert.ReferenceIdeal.Hand.result_at _ _ _ _ _ _ _ i n).trans ?_
  refine Eq.trans ?_ (shapeCast_apply (yFun m c) shapeCasts_S128x14336_S1x128x14336 (ix3 (0 : Fin 1) i n) (ix2 i n) (by
    rw [Shape.rowMajor_val_two, Shape.rowMajor_val_three]
    show i.val * 14336 + n.val = (0 * 128 + i.val) * 14336 + n.val
    omega)).symm
  exact (yFun_apply m c i n).symm

end Cert.Agree

end
-- ==== Proof.lean ====
/- The certificate: the kernel runs and leaves its arguments as they were, over bit-exact floats and over the reals; the
   reference does too; the idealized kernel is the kernel; and at the reals the kernel's result is the reference's. -/
module

public import proofs.«01_k».proof.Defs
public import proofs.«01_k».proof.Proof.KernelFrame
public import proofs.«01_k».proof.Proof.IdealRun
public import proofs.«01_k».proof.Proof.Agree
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The kernel over bit-exact floats runs, with its arguments unchanged and every counter at zero. -/
theorem frame_kernel : Cert.quiescent_Kernel := fun m ρ _ => Cert.Kernel.Hand.frame m ρ

/-- So does the idealized kernel. -/
theorem frame_ideal : Cert.quiescent_KernelIdeal := fun m ρ _ => Cert.KernelIdeal.Hand.frame m ρ

/-- So does the reference, which has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- From agreeing arguments the idealized kernel and the reference end with one result. -/
theorem algebraic : Cert.algebraic_KernelIdeal_ReferenceIdeal := by
  intro m g m' g' _ hagree
  refine ⟨fun c => shapeCast Cert.KernelIdeal.S1x128x14336 (Cert.KernelIdeal.Hand.yFun m c)
      Cert.KernelIdeal.Gen.shapeCasts_S128x14336_S1x128x14336, Cert.KernelIdeal.Hand.run m g, ?_⟩
  refine (θ_run Cert.ReferenceIdeal.defs _ _).mono (fun _ h c => ⟨((h c).1.trans ?_).trans (Cert.Agree.result_eq m c), (h c).2⟩)
    (Cert.ReferenceIdeal.Value.run m' g')
  obtain ⟨h0, h1, h2, h3, h4, h5, h6⟩ := hagree c
  rw [h0, h1, h2, h3, h4, h5, h6]
  exact Cert.ReferenceIdeal.Read.val_main_v36_eq _ _ _ _ _ _ _

theorem claim : Cert.Claim := ⟨Cert.Kernel.Gen.facts, Cert.KernelIdeal.Gen.facts, Cert.ReferenceIdeal.Gen.facts,
  frame_kernel, frame_ideal, frame_reference, trivial, algebraic⟩

end Cert.Proof

end
